-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_range [hPre_normal_range : Cert.Pre_normal_range.Facts] (m : (ℓ : Loc Cert.KernelIdeal.nD Cert.KernelIdeal.τ Cert.KernelIdeal.sig) → Buf (Elt Ideal) ℓ) : Prop :=
  ∀ c : Dev Cert.KernelIdeal.nD,
    (Cert.Pre_normal_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_range [hPre_normal_range : Cert.Pre_normal_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_normal_range [hKernelIdeal : Cert.KernelIdeal.Facts] [hPre_normal_range : Cert.Pre_normal_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_normal_range [hReferenceIdeal : Cert.ReferenceIdeal.Facts] [hPre_normal_range : Cert.Pre_normal_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_normal_range [hKernelIdeal : Cert.KernelIdeal.Facts] [hReferenceIdeal : Cert.ReferenceIdeal.Facts] [hPre_normal_range : Cert.Pre_normal_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_normal_range : Cert.Pre_normal_range.Facts),
    quiescent_Kernel (hKernel := hKernel)
    ∧ quiescent_KernelIdeal (hKernelIdeal := hKernelIdeal)
    ∧ quiescent_KernelIdeal_pre_normal_range (hKernelIdeal := hKernelIdeal) (hPre_normal_range := hPre_normal_range)
    ∧ quiescent_ReferenceIdeal (hReferenceIdeal := hReferenceIdeal)
    ∧ quiescent_ReferenceIdeal_pre_normal_range (hReferenceIdeal := hReferenceIdeal) (hPre_normal_range := hPre_normal_range)
    ∧ preserves_Kernel_KernelIdeal
    ∧ algebraic_KernelIdeal_ReferenceIdeal_pre_normal_range (hKernelIdeal := hKernelIdeal) (hReferenceIdeal := hReferenceIdeal) (hPre_normal_range := hPre_normal_range)
-- ==== Pre_normal_range.lean ====
abbrev S1x1536x18432 : Shape := ⟨3, ![1, 1536, 18432]⟩
abbrev S1x1536x4608 : Shape := ⟨3, ![1, 1536, 4608]⟩
abbrev S_ : Shape := ⟨0, ![]⟩

class Facts : Prop where
  bitsLt_bf16_f32 : FTy.bits .bf16 < FTy.bits .f32
  bcast_S_S1x1536x18432 : S_.BroadcastsInDim S1x1536x18432 (![] : Fin 0 → Fin S1x1536x18432.rank)
  reducesTo_S1x1536x18432_S_d0_1_2 : S1x1536x18432.ReducesTo [0, 1, 2] S_
  h_S_ : 0 < S_.numel

variable [Facts]

def fn {F : FTy → Type} [FloatOps F] (main_arg0 : FVec F S1x1536x18432 .bf16) (main_arg1 : IVec S1x1536x4608 32) : IVec S_ 1 :=
  let main_v0 : FVec F S1x1536x18432 .f32 := (extf .f32 · bitsLt_bf16_f32) main_arg0
  let main_v1 : FVec F S1x1536x18432 .f32 := Host.absf main_v0
  let main_cst : FVec F S_ .f32 := constant S_ .f32 0x00000000#32
  let main_v2 : FVec F S1x1536x18432 .f32 := broadcastInDim S1x1536x18432 ![] bcast_S_S1x1536x18432 main_cst
  let main_v3 : IVec S1x1536x18432 1 := cmpf .oeq main_v1 main_v2
  let main_cst_0 : FVec F S_ .f32 := constant S_ .f32 0x07E00000#32
  let main_v4 : FVec F S1x1536x18432 .f32 := broadcastInDim S1x1536x18432 ![] bcast_S_S1x1536x18432 main_cst_0
  let main_v5 : IVec S1x1536x18432 1 := cmpf .oge main_v1 main_v4
  let main_cst_1 : FVec F S_ .f32 := constant S_ .f32 0x7F7F0000#32
  let main_v6 : FVec F S1x1536x18432 .f32 := broadcastInDim S1x1536x18432 ![] bcast_S_S1x1536x18432 main_cst_1
  let main_v7 : IVec S1x1536x18432 1 := cmpf .ole main_v1 main_v6
  let main_v8 : IVec S1x1536x18432 1 := andi main_v5 main_v7
  let main_v9 : IVec S1x1536x18432 1 := ori main_v3 main_v8
  let main_c : IVec S_ 1 := constantI S_ 1 1#1
  let main_v10 : IVec S_ 1 := (fun x v => Host.reduce IntOp.andi x v reducesTo_S1x1536x18432_S_d0_1_2 h_S_) main_v9 main_c
  main_v10
-- ==== Kernel.lean ====
abbrev S1x1536x18432 : Shape := ⟨3, ![1, 1536, 18432]⟩
abbrev S1x1536x4608 : Shape := ⟨3, ![1, 1536, 4608]⟩
abbrev S8x128 : Shape := ⟨2, ![8, 128]⟩
abbrev S1536x18432 : Shape := ⟨2, ![1536, 18432]⟩
abbrev S1536x4608 : Shape := ⟨2, ![1536, 4608]⟩
abbrev S512x512 : Shape := ⟨2, ![512, 512]⟩
abbrev S_ : Shape := ⟨0, ![]⟩
abbrev S1536x9216 : Shape := ⟨2, ![1536, 9216]⟩
abbrev S1536x288 : Shape := ⟨2, ![1536, 288]⟩
abbrev S1536x2304 : Shape := ⟨2, ![1536, 2304]⟩
abbrev S32x18432 : Shape := ⟨2, ![32, 18432]⟩
abbrev S32x4608 : Shape := ⟨2, ![32, 4608]⟩
abbrev S32x9216 : Shape := ⟨2, ![32, 9216]⟩
abbrev S32x288 : Shape := ⟨2, ![32, 288]⟩
abbrev S32x2304 : Shape := ⟨2, ![32, 2304]⟩
abbrev S32x384 : Shape := ⟨2, ![32, 384]⟩
abbrev S32x128 : Shape := ⟨2, ![32, 128]⟩
abbrev S1x128 : Shape := ⟨2, ![1, 128]⟩
abbrev S32x512 : Shape := ⟨2, ![32, 512]⟩
abbrev S128x512 : Shape := ⟨2, ![128, 512]⟩
abbrev S128x128 : Shape := ⟨2, ![128, 128]⟩
abbrev S128x128x1 : Shape := ⟨3, ![128, 128, 1]⟩
abbrev S32x128x1 : Shape := ⟨3, ![32, 128, 1]⟩
abbrev S32x8 : Shape := ⟨2, ![32, 8]⟩
abbrev S8x128x1 : Shape := ⟨3, ![8, 128, 1]⟩

abbrev nBuf : Space → Nat
  | .hbm => 37
  | .vmem => 13
  | .smem => 0
  | _ => 0

abbrev bufTy : (tb : Table) → Fin (tcTables nBuf tb) → BufTy
  | .hbm, ⟨0, _⟩ => ⟨S1x1536x18432, .bf16⟩
  | .hbm, ⟨1, _⟩ => ⟨S1x1536x4608, .i32⟩
  | .hbm, ⟨2, _⟩ => ⟨S8x128, .i32⟩
  | .hbm, ⟨3, _⟩ => ⟨S1536x18432, .bf16⟩
  | .hbm, ⟨4, _⟩ => ⟨S1536x4608, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S1536x9216, .fp8e5m2⟩
  | .hbm, ⟨35, _⟩ => ⟨S1536x288, .i8⟩
  | .hbm, ⟨36, _⟩ => ⟨S1536x2304, .i8⟩
  | .local _ .vmem, ⟨0, _⟩ => ⟨S32x18432, .bf16⟩
  | .local _ .vmem, ⟨1, _⟩ => ⟨S32x18432, .bf16⟩
  | .local _ .vmem, ⟨2, _⟩ => ⟨S32x4608, .i32⟩
  | .local _ .vmem, ⟨3, _⟩ => ⟨S32x4608, .i32⟩
  | .local _ .vmem, ⟨4, _⟩ => ⟨S512x512, .bf16⟩
  | .local _ .vmem, ⟨5, _⟩ => ⟨S8x128, .i32⟩
  | .local _ .vmem, ⟨6, _⟩ => ⟨S32x9216, .fp8e5m2⟩
  | .local _ .vmem, ⟨7, _⟩ => ⟨S32x9216, .fp8e5m2⟩
  | .local _ .vmem, ⟨8, _⟩ => ⟨S32x288, .i8⟩
  | .local _ .vmem, ⟨9, _⟩ => ⟨S32x288, .i8⟩
  | .local _ .vmem, ⟨10, _⟩ => ⟨S32x2304, .i8⟩
  | .local _ .vmem, ⟨11, _⟩ => ⟨S32x2304, .i8⟩
  | .local _ .vmem, ⟨12, _⟩ => ⟨S32x384, .f32⟩
  | _, _ => ⟨S1x1536x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4608 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x9216 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x288 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2304 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x1536x18432 : Shape := ⟨3, ![1, 1536, 18432]⟩
abbrev S1x1536x4608 : Shape := ⟨3, ![1, 1536, 4608]⟩
abbrev S1536x288x16x4 : Shape := ⟨4, ![1536, 288, 16, 4]⟩
abbrev S_ : Shape := ⟨0, ![]⟩
abbrev S1536x288x16x1 : Shape := ⟨4, ![1536, 288, 16, 1]⟩
abbrev S1536x288x16 : Shape := ⟨3, ![1536, 288, 16]⟩
abbrev S1536x288x1 : Shape := ⟨3, ![1536, 288, 1]⟩
abbrev S1536x288 : Shape := ⟨2, ![1536, 288]⟩
abbrev S1536x288x16x2 : Shape := ⟨4, ![1536, 288, 16, 2]⟩
abbrev S1536x9216 : Shape := ⟨2, ![1536, 9216]⟩
abbrev S1536x2304x2 : Shape := ⟨3, ![1536, 2304, 2]⟩
abbrev S1536x2304x1 : Shape := ⟨3, ![1536, 2304, 1]⟩
abbrev S1536x2304 : Shape := ⟨2, ![1536, 2304]⟩

abbrev nBuf : Space → Nat
  | .hbm => 47
  | .vmem => 10
  | .smem => 0
  | _ => 0

abbrev bufTy : (tb : Table) → Fin (tcTables nBuf tb) → BufTy
  | .hbm, ⟨0, _⟩ => ⟨S1x1536x18432, .bf16⟩
  | .hbm, ⟨1, _⟩ => ⟨S1x1536x4608, .i32⟩
  | .hbm, ⟨2, _⟩ => ⟨S1536x288x16x4, .bf16⟩
  | .hbm, ⟨3, _⟩ => ⟨S_, .i32⟩
  | .hbm, ⟨4, _⟩ => ⟨S1x1536x4608, .i32⟩
  | .hbm, ⟨5, _⟩ => ⟨S1x1536x4608, .i32⟩
  | .hbm, ⟨6, _⟩ => ⟨S1x1536x4608, .f32⟩
  | .hbm, ⟨7, _⟩ => ⟨S_, .f32⟩
  | .hbm, ⟨8, _⟩ => ⟨S1x1536x4608, .f32⟩
  | .hbm, ⟨9, _⟩ => ⟨S1x1536x4608, .f32⟩
  | .hbm, ⟨10, _⟩ => ⟨S1536x288x16x1, .bf16⟩
  | .hbm, ⟨11, _⟩ => ⟨S1536x288x16, .bf16⟩
  | .hbm, ⟨12, _⟩ => ⟨S1536x288x16x1, .bf16⟩
  | .hbm, ⟨13, _⟩ => ⟨S1536x288x16, .bf16⟩
  | .hbm, ⟨14, _⟩ => ⟨S1536x288x16x1, .bf16⟩
  | .hbm, ⟨15, _⟩ => ⟨S1536x288x16, .bf16⟩
  | .hbm, ⟨16, _⟩ => ⟨S1536x288x16x1, .bf16⟩
  | .hbm, ⟨17, _⟩ => ⟨S1536x288x16, .bf16⟩
  | .hbm, ⟨18, _⟩ => ⟨S1536x288x16, .f32⟩
  | .hbm, ⟨19, _⟩ => ⟨S1536x288x16, .fp8e5m2⟩
  | .hbm, ⟨20, _⟩ => ⟨S1536x288x16, .fp8e5m2⟩
  | .hbm, ⟨21, _⟩ => ⟨S1536x288x1, .i32⟩
  | .hbm, ⟨22, _⟩ => ⟨S1536x288x16, .i32⟩
  | .hbm, ⟨23, _⟩ => ⟨S1536x288x16, .i32⟩
  | .hbm, ⟨24, _⟩ => ⟨S1536x288x16x1, .fp8e5m2⟩
  | .hbm, ⟨25, _⟩ => ⟨S1536x288x16x1, .fp8e5m2⟩
  | .hbm, ⟨26, _⟩ => ⟨S1536x288x16x2, .fp8e5m2⟩
  | .hbm, ⟨27, _⟩ => ⟨S1536x9216, .fp8e5m2⟩
  | .hbm, ⟨28, _⟩ => ⟨S_, .i32⟩
  | .hbm, ⟨29, _⟩ => ⟨S1536x288x1, .i32⟩
  | .hbm, ⟨30, _⟩ => ⟨S1536x288x1, .i32⟩
  | .hbm, ⟨31, _⟩ => ⟨S1536x288x1, .i8⟩
  | .hbm, ⟨32, _⟩ => ⟨S1536x288, .i8⟩
  | .hbm, ⟨33, _⟩ => ⟨S_, .i32⟩
  | .hbm, ⟨34, _⟩ => ⟨S1536x288x16, .i32⟩
  | .hbm, ⟨35, _⟩ => ⟨S1536x288x16, .i32⟩
  | .hbm, ⟨36, _⟩ => ⟨S1536x288x16, .i32⟩
  | .hbm, ⟨37, _⟩ => ⟨S1536x2304x2, .i32⟩
  | .hbm, ⟨38, _⟩ => ⟨S1536x2304x1, .i32⟩
  | .hbm, ⟨39, _⟩ => ⟨S1536x2304, .i32⟩
  | .hbm, ⟨40, _⟩ => ⟨S1536x2304x1, .i32⟩
  | .hbm, ⟨41, _⟩ => ⟨S1536x2304, .i32⟩
  | .hbm, ⟨42, _⟩ => ⟨S_, .i32⟩
  | .hbm, ⟨43, _⟩ => ⟨S1536x2304, .i32⟩
  | .hbm, ⟨44, _⟩ => ⟨S1536x2304, .i32⟩
  | .hbm, ⟨45, _⟩ => ⟨S1536x2304, .i32⟩
  | .hbm, ⟨46, _⟩ => ⟨S1536x2304, .i8⟩
  | .local _ .vmem, ⟨0, _⟩ => ⟨S1536x288x16, .bf16⟩
  | .local _ .vmem, ⟨1, _⟩ => ⟨S1536x288x16, .bf16⟩
  | .local _ .vmem, ⟨2, _⟩ => ⟨S1536x288x16, .bf16⟩
  | .local _ .vmem, ⟨3, _⟩ => ⟨S1536x288x16, .bf16⟩
  | .local _ .vmem, ⟨4, _⟩ => ⟨S1536x288x16, .f32⟩
  | .local _ .vmem, ⟨5, _⟩ => ⟨S1536x288x16, .fp8e5m2⟩
  | .local _ .vmem, ⟨6, _⟩ => ⟨S1536x288x16, .fp8e5m2⟩
  | .local _ .vmem, ⟨7, _⟩ => ⟨S1536x288x1, .i32⟩
  | .local _ .vmem, ⟨8, _⟩ => ⟨S1536x288x16, .i32⟩
  | .local _ .vmem, ⟨9, _⟩ => ⟨S1536x288x16, .i32⟩
  | _, _ => ⟨S1x1536x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev main_v15_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x288x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x288x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x288x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x288x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x288x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x288x16 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x288x16 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x288x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x288x16 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x288x16 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Tile.lean ====
/- The kernel's body, as functions on vectors: what one tile of four chunks computes from its loads, what the body
   stores in each result's block as lists of pieces, and that the run found exactly these pieces. -/
module

public import proofs.«01_k».proof.Proof.Gen.KernelIdeal.Value

@[expose] public section

set_option maxRecDepth 16384

noncomputable section

namespace Cert.KernelIdeal.Tile

open Idealize.ShloMosaic Idealize.ShloMosaic.TcCoe Idealize.ShloMosaic.Tactic Idealize.SL.Sem
open Cert.KernelIdeal Cert.KernelIdeal.Gen

variable {F : FTy → Type} [FloatOps F]

/-! ## Lane gathers -/

/-- A row of lane numbers, spread over the rows of `s` (a negative lane counts from the end). -/
def laneIdx {s s1 : Shape} (hb : S1x128.Broadcasts s) (h1 : s.ShapeCasts s1) (h2 : s1.ShapeCasts s) (i : IVec S1x128 32) : IVec s 32 :=
  shapeCast s (shapeCast s1 (select (cmpi .slt (broadcastTo s (shapeCast S1x128 i shapeCasts_S1x128_S1x128) hb) (broadcast s 0#32))
    (addi (broadcastTo s (shapeCast S1x128 i shapeCasts_S1x128_S1x128) hb) (broadcast s 128#32))
    (broadcastTo s (shapeCast S1x128 i shapeCasts_S1x128_S1x128) hb)) h1) h2

/-- Lanes gathered in 128 rows. -/
def gather128 (x : IVec S128x128 32) (i : IVec S1x128 32) : IVec S128x128 32 :=
  dynamicGather 1 x (laneIdx broadcasts_S1x128_S128x128 shapeCasts_S128x128_S128x128x1 shapeCasts_S128x128x1_S128x128 i)

/-- Lanes gathered in 32 rows. -/
def gather32 (x : FVec F S32x128 .f32) (i : IVec S1x128 32) : FVec F S32x128 .f32 :=
  dynamicGather 1 x (laneIdx broadcasts_S1x128_S32x128 shapeCasts_S32x128_S32x128x1 shapeCasts_S32x128x1_S32x128 i)

/-- Lanes gathered in 8 rows. -/
def gather8 (x : IVec S8x128 32) (i : IVec S1x128 32) : IVec S8x128 32 :=
  dynamicGather 1 x (laneIdx broadcasts_S1x128_S8x128 shapeCasts_S8x128_S8x128x1 shapeCasts_S8x128x1_S8x128 i)

/-! ## The exponent of a number, by eight comparisons -/

/-- One step of the search: `k` more if the power of two it would be is still at most `x`. -/
def expStep {s : Shape} (x : FVec F s .f32) (k : BitVec 32) (e : IVec s 32) : IVec s 32 :=
  select (cmpf .oge x (bitcastToFloat .f32 (shli (addi e (broadcast s k)) (broadcast s 23#32)))) (addi e (broadcast s k)) e

/-- The exponent field of `x`. -/
def expo {s : Shape} (x : FVec F s .f32) : IVec s 32 :=
  expStep x 1#32 (expStep x 2#32 (expStep x 4#32 (expStep x 8#32 (expStep x 16#32 (expStep x 32#32 (expStep x 64#32
    (expStep x 128#32 (broadcast s 0#32))))))))

/-! ## One group of four, at every position -/

section Group
variable {s : Shape} (a0 a1 a2 a3 u : FVec F s .f32)

/-- The sum of the magnitudes. -/
def tot : FVec F s .f32 := addf (addf (absf a0) (absf a1)) (addf (absf a2) (absf a3))
/-- The largest magnitude, or half of the sum if that is more. -/
def big : FVec F s .f32 :=
  maximumf (maximumf (maximumf (absf a0) (absf a1)) (maximumf (absf a2) (absf a3))) (mulf (tot a0 a1 a2 a3) (broadcast s (Scalar.ofBits .f32 0x3F000000#32)))
/-- What the larger value leaves of the sum. -/
def small : FVec F s .f32 := subf (tot a0 a1 a2 a3) (big a0 a1 a2 a3)
/-- The threshold of the first choice. -/
def t1 : FVec F s .f32 :=
  select (cmpf .oeq (small a0 a1 a2 a3) (broadcast s (Scalar.ofBits .f32 0x00000000#32)))
    (select (cmpf .oeq (tot a0 a1 a2 a3) (broadcast s (Scalar.ofBits .f32 0x00000000#32))) (broadcast s (Scalar.ofBits .f32 0xBF800000#32))
      (subf (broadcast s (Scalar.ofBits .f32 0x00000000#32)) (tot a0 a1 a2 a3)))
    (mulf u (mulf (small a0 a1 a2 a3) (broadcast s (Scalar.ofBits .f32 0x33800000#32))))
/-- The threshold of the second choice, counted from the end. -/
def t4 : FVec F s .f32 := subf (small a0 a1 a2 a3) (t1 a0 a1 a2 a3 u)
/-- The first choice is past element 0. -/
def aGe1 : IVec s 1 := cmpf .ole (absf a0) (t1 a0 a1 a2 a3 u)
/-- The first choice is past element 1. -/
def aGe2 : IVec s 1 := cmpf .ole (addf (absf a0) (absf a1)) (t1 a0 a1 a2 a3 u)
/-- The second choice is past element 1. -/
def bGe2 : IVec s 1 := cmpf .oge (addf (absf a2) (absf a3)) (t4 a0 a1 a2 a3 u)
/-- The second choice is past element 2. -/
def bGe3 : IVec s 1 := cmpf .oge (absf a3) (t4 a0 a1 a2 a3 u)
/-- The element chosen first. -/
def xLo : FVec F s .f32 := select (aGe2 a0 a1 a2 a3 u) a2 (select (aGe1 a0 a1 a2 a3 u) a1 a0)
/-- The element chosen second. -/
def xHi : FVec F s .f32 := select (bGe3 a0 a1 a2 a3 u) a3 (select (bGe2 a0 a1 a2 a3 u) a2 a1)
/-- The first choice is the one that keeps the larger value. -/
def loMax : IVec s 1 := cmpf .oge (absf (xLo a0 a1 a2 a3 u)) (big a0 a1 a2 a3)
/-- The first choice's magnitude. -/
def magLo : FVec F s .f32 := select (loMax a0 a1 a2 a3 u) (big a0 a1 a2 a3) (small a0 a1 a2 a3)
/-- The second choice's magnitude. -/
def magHi : FVec F s .f32 := select (loMax a0 a1 a2 a3 u) (small a0 a1 a2 a3) (big a0 a1 a2 a3)
/-- The two choices in one word. -/
def field : IVec s 32 :=
  addi (select (aGe2 a0 a1 a2 a3 u) (broadcast s 2#32) (select (aGe1 a0 a1 a2 a3 u) (broadcast s 1#32) (broadcast s 0#32)))
    (select (bGe3 a0 a1 a2 a3 u) (broadcast s 12#32) (select (bGe2 a0 a1 a2 a3 u) (broadcast s 8#32) (broadcast s 4#32)))
end Group

/-- The sign of `x` times the scaled magnitude, clipped and rounded to a code; read back. -/
def quant {s : Shape} (x mag f : FVec F s .f32) : FVec F s .f32 :=
  extf .f32 (truncf .fp8e5m2 (minimumf (broadcast s (Scalar.ofBits .f32 0x47600000#32)) (maximumf (broadcast s (Scalar.ofBits .f32 0xC7600000#32))
    (mulf (minimumf (broadcast s (Scalar.ofBits .f32 0x3F800000#32)) (maximumf (broadcast s (Scalar.ofBits .f32 0xBF800000#32))
      (mulf x (broadcast s (Scalar.ofBits .f32 0x7F000000#32))))) (mulf mag f)))) bitsLt_fp8e5m2_f32) bitsLt_fp8e5m2_f32

/-! ## A tile of four chunks -/

section TileDefs
variable (G : Fin 4 → Vec F S32x512 .bf16) (P : Vec F S512x512 .bf16) (R : Fin 4 → Vec F S32x128 .i32) (i0 : IVec S1x128 32)

/-- The four chunks' elements in four planes side by side. -/
def planes : FVec F S128x512 .f32 :=
  matmul dot_S128x512_S512x512_S128x512_1_0_0_1_n_n none
    (concatenate S128x512 0 [⟨S32x512, shapeCast S32x512 (G 0) shapeCasts_S32x512_S32x512⟩, ⟨S32x512, shapeCast S32x512 (G 1) shapeCasts_S32x512_S32x512⟩,
      ⟨S32x512, shapeCast S32x512 (G 2) shapeCasts_S32x512_S32x512⟩, ⟨S32x512, shapeCast S32x512 (G 3) shapeCasts_S32x512_S32x512⟩]
      concatenates_S32x512_S32x512_S32x512_S32x512_S128x512_d0)
    (shapeCast S512x512 P shapeCasts_S512x512_S512x512) (constant S128x512 .f32 0x00000000#32)
/-- Element 0 of every group. -/
def p0 : FVec F S128x128 .f32 := extractStridedSlice S128x128 ![0, 0] (planes G P) slices_S128x512_o0_0_S128x128
/-- Element 1 of every group. -/
def p1 : FVec F S128x128 .f32 := extractStridedSlice S128x128 ![0, 128] (planes G P) slices_S128x512_o0_128_S128x128
/-- Element 2 of every group. -/
def p2 : FVec F S128x128 .f32 := extractStridedSlice S128x128 ![0, 256] (planes G P) slices_S128x512_o0_256_S128x128
/-- Element 3 of every group. -/
def p3 : FVec F S128x128 .f32 := extractStridedSlice S128x128 ![0, 384] (planes G P) slices_S128x512_o0_384_S128x128
/-- The random number of every group, as an integer below `2^24`. -/
def rnd : FVec F S128x128 .f32 :=
  sitofp .f32 (shrui (gather128 (concatenate S128x128 0 [⟨S32x128, shapeCast S32x128 (R 0) shapeCasts_S32x128_S32x128⟩,
    ⟨S32x128, shapeCast S32x128 (R 1) shapeCasts_S32x128_S32x128⟩, ⟨S32x128, shapeCast S32x128 (R 2) shapeCasts_S32x128_S32x128⟩,
    ⟨S32x128, shapeCast S32x128 (R 3) shapeCasts_S32x128_S32x128⟩] concatenates_S32x128_S32x128_S32x128_S32x128_S128x128_d0) i0)
    (broadcast S128x128 8#32))

/-- The largest of the sixteen groups of a block. -/
def amax (b : FVec F S128x128 .f32) : FVec F S8x128 .f32 :=
  maximumf (maximumf (maximumf (maximumf (maximumf (maximumf (maximumf (maximumf (maximumf (maximumf (maximumf (maximumf (maximumf (maximumf (maximumf
    (extractStridedSlice S8x128 ![0, 0] (transpose S128x128 [1, 0] b transposes_S128x128_p1_0_S128x128) slices_S128x128_o0_0_S8x128)
    (extractStridedSlice S8x128 ![8, 0] (transpose S128x128 [1, 0] b transposes_S128x128_p1_0_S128x128) slices_S128x128_o8_0_S8x128))
    (extractStridedSlice S8x128 ![16, 0] (transpose S128x128 [1, 0] b transposes_S128x128_p1_0_S128x128) slices_S128x128_o16_0_S8x128))
    (extractStridedSlice S8x128 ![24, 0] (transpose S128x128 [1, 0] b transposes_S128x128_p1_0_S128x128) slices_S128x128_o24_0_S8x128))
    (extractStridedSlice S8x128 ![32, 0] (transpose S128x128 [1, 0] b transposes_S128x128_p1_0_S128x128) slices_S128x128_o32_0_S8x128))
    (extractStridedSlice S8x128 ![40, 0] (transpose S128x128 [1, 0] b transposes_S128x128_p1_0_S128x128) slices_S128x128_o40_0_S8x128))
    (extractStridedSlice S8x128 ![48, 0] (transpose S128x128 [1, 0] b transposes_S128x128_p1_0_S128x128) slices_S128x128_o48_0_S8x128))
    (extractStridedSlice S8x128 ![56, 0] (transpose S128x128 [1, 0] b transposes_S128x128_p1_0_S128x128) slices_S128x128_o56_0_S8x128))
    (extractStridedSlice S8x128 ![64, 0] (transpose S128x128 [1, 0] b transposes_S128x128_p1_0_S128x128) slices_S128x128_o64_0_S8x128))
    (extractStridedSlice S8x128 ![72, 0] (transpose S128x128 [1, 0] b transposes_S128x128_p1_0_S128x128) slices_S128x128_o72_0_S8x128))
    (extractStridedSlice S8x128 ![80, 0] (transpose S128x128 [1, 0] b transposes_S128x128_p1_0_S128x128) slices_S128x128_o80_0_S8x128))
    (extractStridedSlice S8x128 ![88, 0] (transpose S128x128 [1, 0] b transposes_S128x128_p1_0_S128x128) slices_S128x128_o88_0_S8x128))
    (extractStridedSlice S8x128 ![96, 0] (transpose S128x128 [1, 0] b transposes_S128x128_p1_0_S128x128) slices_S128x128_o96_0_S8x128))
    (extractStridedSlice S8x128 ![104, 0] (transpose S128x128 [1, 0] b transposes_S128x128_p1_0_S128x128) slices_S128x128_o104_0_S8x128))
    (extractStridedSlice S8x128 ![112, 0] (transpose S128x128 [1, 0] b transposes_S128x128_p1_0_S128x128) slices_S128x128_o112_0_S8x128))
    (extractStridedSlice S8x128 ![120, 0] (transpose S128x128 [1, 0] b transposes_S128x128_p1_0_S128x128) slices_S128x128_o120_0_S8x128)

/-- The block's largest value over the largest code. -/
def norm (b : FVec F S128x128 .f32) : FVec F S8x128 .f32 := mulf (amax b) (broadcast S8x128 (Scalar.ofBits .f32 0x37924925#32))
/-- The power of two that brings the block into the codes' range. -/
def scale8 (n : FVec F S8x128 .f32) : FVec F S8x128 .f32 :=
  select (cmpf .oeq n (broadcast S8x128 (Scalar.ofBits .f32 0x00000000#32))) (broadcast S8x128 (Scalar.ofBits .f32 0x3F800000#32))
    (bitcastToFloat .f32 (subi (broadcast S8x128 2122317824#32) (shli (expo n) (broadcast S8x128 23#32))))
/-- The blocks' scales, one per group. -/
def spread (f : FVec F S8x128 .f32) : FVec F S128x128 .f32 :=
  transpose S128x128 [1, 0] (concatenate S128x128 0 [⟨S8x128, f⟩, ⟨S8x128, f⟩, ⟨S8x128, f⟩, ⟨S8x128, f⟩, ⟨S8x128, f⟩, ⟨S8x128, f⟩, ⟨S8x128, f⟩, ⟨S8x128, f⟩,
    ⟨S8x128, f⟩, ⟨S8x128, f⟩, ⟨S8x128, f⟩, ⟨S8x128, f⟩, ⟨S8x128, f⟩, ⟨S8x128, f⟩, ⟨S8x128, f⟩, ⟨S8x128, f⟩]
    concatenates_S8x128_S8x128_S8x128_S8x128_S8x128_S8x128_S8x128_S8x128_S8x128_S8x128_S8x128_S8x128_S8x128_S8x128_S8x128_S8x128_S128x128_d0)
    transposes_S128x128_p1_0_S128x128
/-- The tile's scales, one per group. -/
def scale : FVec F S128x128 .f32 := spread (scale8 (norm (big (p0 G P) (p1 G P) (p2 G P) (p3 G P))))
/-- The first choice's code of every group. -/
def qLo : FVec F S128x128 .f32 :=
  quant (xLo (p0 G P) (p1 G P) (p2 G P) (p3 G P) (rnd R i0)) (magLo (p0 G P) (p1 G P) (p2 G P) (p3 G P) (rnd R i0)) (scale G P)
/-- The second choice's code of every group. -/
def qHi : FVec F S128x128 .f32 :=
  quant (xHi (p0 G P) (p1 G P) (p2 G P) (p3 G P) (rnd R i0)) (magHi (p0 G P) (p1 G P) (p2 G P) (p3 G P) (rnd R i0)) (scale G P)
/-- The choices of every group, four rows to a word. -/
def fq : IVec S32x128 32 :=
  bitcast S32x128 32 (trunci 8 (field (p0 G P) (p1 G P) (p2 G P) (p3 G P) (rnd R i0)) natLt_8_32) bitcasts_S128x128_w8_S32x128_w32
end TileDefs

/-- Chunk `n`'s rows of a tile. -/
theorem slices32 (n : Fin 4) : S128x128.Slices ![32 * n.val, 0] S32x128 := by revert n; decide
/-- Chunk `n`'s words of a tile. -/
theorem slices8 (n : Fin 4) : S32x128.Slices ![8 * n.val, 0] S8x128 := by revert n; decide
/-- Chunk `n`'s scales at the eight lanes from `8 c`. -/
theorem slicesF (n : Fin 4) (c : Fin 16) : S128x128.Slices ![32 * n.val, 8 * c.val] S32x8 := by revert n c; decide

/-- Two codes' rows interleaved by the lane's parity. -/
def codes (qlo qhi : FVec F S128x128 .f32) (i : IVec S1x128 32) (n : Fin 4) : FVec F S32x128 .fp8e5m2 :=
  truncf .fp8e5m2 (select (cmpi .eq (andi (iota .tc S32x128 32 [1] iota_S32x128_d1_w32) (broadcast S32x128 1#32)) (broadcast S32x128 1#32))
    (gather32 (extractStridedSlice S32x128 ![32 * n.val, 0] qhi (slices32 n)) i)
    (gather32 (extractStridedSlice S32x128 ![32 * n.val, 0] qlo (slices32 n)) i)) bitsLt_fp8e5m2_f32

/-- Two neighbouring groups' choices in one byte. -/
def pairs (w : IVec S32x128 32) (n : Fin 4) : IVec S8x128 32 :=
  ori (extractStridedSlice S8x128 ![8 * n.val, 0] w (slices8 n))
    (shli (dynamicRotate 1 120#32 none (extractStridedSlice S8x128 ![8 * n.val, 0] w (slices8 n)) rotates_S8x128_d1) (broadcast S8x128 4#32))

/-- Two chunks' bytes side by side. -/
def metas (w : IVec S32x128 32) (i3 i4 : IVec S1x128 32) (n n' : Fin 4) : IVec S32x128 8 :=
  bitcast S32x128 8 (select (cmpi .slt (extractStridedSlice S8x128 ![0, 0] (iota .tc S32x128 32 [1] iota_S32x128_d1_w32) slices_S32x128_o0_0_S8x128) (broadcast S8x128 64#32))
    (gather8 (pairs w n) i3) (gather8 (pairs w n') i4)) bitcasts_S8x128_w32_S32x128_w8

/-! ## The loads -/

section Body
variable (arg1 : Memref sig .tc .vmem S32x18432 .bf16) (harg1 : arg1.IsWhole) (arg2 : Memref sig .tc .vmem S32x4608 .i32) (harg2 : arg2.IsWhole)
  (arg3 : Memref sig .tc .vmem S512x512 .bf16) (harg3 : arg3.IsWhole) (arg4 : Memref sig .tc .vmem S8x128 .i32) (harg4 : arg4.IsWhole)
  (x0 : Vec F S32x18432 .bf16) (x1 : Vec F S32x4608 .i32) (x2 : Vec F S512x512 .bf16) (x3 : Vec F S8x128 .i32)

theorem inbG (t : Fin 9) (n : Fin 4) : ∀ a, (![0, 2048 * t.val + 512 * n.val] : Fin 2 → Nat) a + S32x512.size a ≤ S32x18432.size a := by
  revert t n; decide
theorem inbR (t : Fin 9) (n : Fin 4) : ∀ a, (![0, 512 * t.val + 128 * n.val] : Fin 2 → Nat) a + S32x128.size a ≤ S32x4608.size a := by
  revert t n; decide
theorem inbI (k : Fin 5) : ∀ a, (![k.val, 0] : Fin 2 → Nat) a + S1x128.size a ≤ S8x128.size a := by revert k; decide

/-- Chunk `n` of tile `t`, loaded. -/
def ldG (t : Fin 9) (n : Fin 4) : Vec F S32x512 .bf16 :=
  View.readAt (Elt F) arg1.view (Rect.unit (s := S32x18432) ![0, 2048 * t.val + 512 * n.val] S32x512.size (inbG t n)).toLoadRect (harg1.unread x0)
/-- Chunk `n` of tile `t`'s random words, loaded. -/
def ldR (t : Fin 9) (n : Fin 4) : Vec F S32x128 .i32 :=
  View.readAt (Elt F) arg2.view (Rect.unit (s := S32x4608) ![0, 512 * t.val + 128 * n.val] S32x128.size (inbR t n)).toLoadRect (harg2.unread x1)
/-- The selection matrix, loaded. -/
def ldP : Vec F S512x512 .bf16 :=
  View.readAt (Elt F) arg3.view (Rect.unit (s := S512x512) ![0, 0] S512x512.size inb_S512x512_S512x512_0_0).toLoadRect (harg3.unread x2)
/-- Row `k` of the lane numbers, loaded. -/
def ldI (k : Fin 5) : Vec F S1x128 .i32 :=
  View.readAt (Elt F) arg4.view (Rect.unit (s := S8x128) ![k.val, 0] S1x128.size (inbI k)).toLoadRect (harg4.unread x3)

/-! ## The pieces stored -/

theorem inbC (k : Fin 72) : ∀ a, (![0, 128 * k.val] : Fin 2 → Nat) a + S32x128.size a ≤ S32x9216.size a := by revert k; decide
theorem inbM (k : Fin 18) : ∀ a, (![0, 128 * k.val] : Fin 2 → Nat) a + S32x128.size a ≤ S32x2304.size a := by revert k; decide
theorem inbF (k : Fin 36) : ∀ a, (![0, 8 * k.val] : Fin 2 → Nat) a + S32x8.size a ≤ S32x384.size a := by revert k; decide

/-- The codes' piece of index `k`: half `k % 2` of chunk `k / 2`. -/
def codePiece (k : Fin 72) : View.Piece (Elt F) S32x9216 .fp8e5m2 :=
  ⟨Rect.unit (s := S32x9216) ![0, 128 * k.val] S32x128.size (inbC k),
    codes (qLo (ldG arg1 harg1 x0 ⟨k.val / 8, by omega⟩) (ldP arg3 harg3 x2) (ldR arg2 harg2 x1 ⟨k.val / 8, by omega⟩) (ldI arg4 harg4 x3 0))
      (qHi (ldG arg1 harg1 x0 ⟨k.val / 8, by omega⟩) (ldP arg3 harg3 x2) (ldR arg2 harg2 x1 ⟨k.val / 8, by omega⟩) (ldI arg4 harg4 x3 0))
      (ldI arg4 harg4 x3 ⟨1 + k.val % 2, by omega⟩) ⟨k.val / 2 % 4, by omega⟩⟩

/-- The bytes' piece of index `k`: chunks `2 k` and `2 k + 1`. -/
def metaPiece (k : Fin 18) : View.Piece (Elt F) S32x2304 .i8 :=
  ⟨Rect.unit (s := S32x2304) ![0, 128 * k.val] S32x128.size (inbM k),
    metas (fq (ldG arg1 harg1 x0 ⟨k.val / 2, by omega⟩) (ldP arg3 harg3 x2) (ldR arg2 harg2 x1 ⟨k.val / 2, by omega⟩) (ldI arg4 harg4 x3 0))
      (ldI arg4 harg4 x3 3) (ldI arg4 harg4 x3 4) ⟨2 * (k.val % 2), by omega⟩ ⟨2 * (k.val % 2) + 1, by omega⟩⟩

/-- The scales' piece of chunk `k` in the scratch buffer. -/
def scalePiece (k : Fin 36) : View.Piece (Elt F) S32x384 .f32 :=
  ⟨Rect.unit (s := S32x384) ![0, 8 * k.val] S32x8.size (inbF k),
    shapeCast S32x8 (extractStridedSlice S32x8 ![32 * (k.val % 4), 8 * (k.val % 16)]
      (scale (ldG arg1 harg1 x0 ⟨k.val / 4, by omega⟩) (ldP arg3 harg3 x2)) (slicesF ⟨k.val % 4, by omega⟩ ⟨k.val % 16, by omega⟩)) shapeCasts_S32x8_S32x8⟩

/-- The pieces of index below `n`, the last first. -/
def downFrom {N : ℕ} {α : Type} (f : Fin N → α) : (n : ℕ) → n ≤ N → List α
  | 0, _ => []
  | n + 1, h => f ⟨n, h⟩ :: downFrom f n (Nat.le_of_succ_le h)

/-- The scales as bytes. -/
def scales (f : FVec F S32x288 .f32) : IVec S32x288 8 := trunci 8 (subi (broadcast S32x288 254#32) (expo f)) natLt_8_32

variable (c : Dev nD) (i : grid0.Coords) (arg5 : Memref sig .tc .vmem S32x9216 .fp8e5m2) (harg5 : arg5.IsWhole)
  (arg6 : Memref sig .tc .vmem S32x288 .i8) (harg6 : arg6.IsWhole) (arg7 : Memref sig .tc .vmem S32x2304 .i8) (harg7 : arg7.IsWhole)
  (arg8 : Memref sig .tc .vmem S32x384 .f32) (harg8 : arg8.IsWhole)

/-- The run stores the codes' pieces. -/
theorem run_codes : (kernelRun0_A c i arg1 harg1 arg2 harg2 arg3 harg3 arg4 harg4 arg5 harg5 arg6 harg6 arg7 harg7 arg8 harg8 x0 x1 x2 x3).1
    = downFrom (codePiece arg1 harg1 arg2 harg2 arg3 harg3 arg4 harg4 x0 x1 x2 x3) 72 le_rfl := by
  sl_kernel_rfl

/-- The run stores the bytes' pieces. -/
theorem run_metas : (kernelRun0_A c i arg1 harg1 arg2 harg2 arg3 harg3 arg4 harg4 arg5 harg5 arg6 harg6 arg7 harg7 arg8 harg8 x0 x1 x2 x3).2.2.1
    = downFrom (metaPiece arg1 harg1 arg2 harg2 arg3 harg3 arg4 harg4 x0 x1 x2 x3) 18 le_rfl := by
  sl_kernel_rfl

/-- The run stores the scales read back from the scratch buffer's pieces. -/
theorem run_scales : (kernelRun0_A c i arg1 harg1 arg2 harg2 arg3 harg3 arg4 harg4 arg5 harg5 arg6 harg6 arg7 harg7 arg8 harg8 x0 x1 x2 x3).2.1
    = [⟨Rect.unit (s := S32x288) ![0, 0] ![32, 288] inb_S32x288_S32x288_0_0,
        scales (arg8.view.readCov (downFrom (scalePiece arg1 harg1 arg3 harg3 x0 x2) 36 le_rfl)
          (Rect.unit (s := S32x384) ![0, 0] S32x288.size inb_S32x384_S32x288_0_0).toLoadRect)⟩] := by
  sl_kernel_rfl

end Body

end Cert.KernelIdeal.Tile

end
-- ==== Proof.Sel.lean ====
/- One group of four real numbers: the two elements the reference chooses and the values it gives them, the two the
   kernel chooses and the values it gives them, and that they are the same. -/
module

public import Idealize.ShloMosaic.Lib.Pointwise

@[expose] public section

noncomputable section

namespace Cert.Sel

open Classical

variable (a0 a1 a2 a3 u : ℝ)

/-! ## The reference -/

/-- The sum of the magnitudes. -/
def tot : ℝ := |a0| + |a1| + |a2| + |a3|
/-- The largest magnitude. -/
def mx : ℝ := max (max |a0| |a1|) (max |a2| |a3|)
/-- Where the largest magnitude stands first. -/
def jm : ℕ := if |a0| = mx a0 a1 a2 a3 then 0 else if |a1| = mx a0 a1 a2 a3 then 1 else if |a2| = mx a0 a1 a2 a3 then 2 else 3
/-- What the largest leaves of the sum. -/
def rest : ℝ := tot a0 a1 a2 a3 - mx a0 a1 a2 a3
/-- The other choice, where the largest is one. -/
def sec : ℕ :=
  if rest a0 a1 a2 a3 = 0 then (if jm a0 a1 a2 a3 = 0 then 1 else 0)
  else if u * rest a0 a1 a2 a3 < (if jm a0 a1 a2 a3 = 0 then |a1| else |a0|) then (if jm a0 a1 a2 a3 = 0 then 1 else 0)
  else if u * rest a0 a1 a2 a3 < (if jm a0 a1 a2 a3 = 0 then |a1| else |a0|) + (if jm a0 a1 a2 a3 ≤ 1 then |a2| else |a1|) then
    (if jm a0 a1 a2 a3 ≤ 1 then 2 else 1)
  else (if jm a0 a1 a2 a3 ≤ 2 then 3 else 2)
/-- Half of the sum. -/
def half : ℝ := tot a0 a1 a2 a3 * (1 / 2)
/-- How many partial sums are at most `x`. -/
def cnt (x : ℝ) : ℕ := (if |a0| ≤ x then 1 else 0) + (if |a0| + |a1| ≤ x then 1 else 0) + (if |a0| + |a1| + |a2| ≤ x then 1 else 0)
/-- The first choice, where no element is half of the sum. -/
def first : ℕ := min 2 (cnt a0 a1 a2 (u * half a0 a1 a2 a3))
/-- The second choice, where no element is half of the sum. -/
def second : ℕ := min 3 (max (cnt a0 a1 a2 (u * half a0 a1 a2 a3 + half a0 a1 a2 a3)) (first a0 a1 a2 a3 u + 1))
/-- The first choice. -/
def lo : ℕ := if tot a0 a1 a2 a3 ≤ 2 * mx a0 a1 a2 a3 then min (jm a0 a1 a2 a3) (sec a0 a1 a2 a3 u) else first a0 a1 a2 a3 u
/-- The second choice. -/
def hi : ℕ := if tot a0 a1 a2 a3 ≤ 2 * mx a0 a1 a2 a3 then max (jm a0 a1 a2 a3) (sec a0 a1 a2 a3 u) else second a0 a1 a2 a3 u
/-- The element of index `p`. -/
def pick (p : ℕ) : ℝ := if p = 0 then a0 else if p = 1 then a1 else if p = 2 then a2 else a3
/-- The sign of a number. -/
def sgn (x : ℝ) : ℝ := if 0 < x then 1 else if x < 0 then -1 else 0
/-- The value of the choice `p`. -/
def value (p : ℕ) : ℝ :=
  if tot a0 a1 a2 a3 ≤ 2 * mx a0 a1 a2 a3 then
    (if p = jm a0 a1 a2 a3 then pick a0 a1 a2 a3 p
     else if rest a0 a1 a2 a3 = 0 then 0 else sgn (pick a0 a1 a2 a3 p) * rest a0 a1 a2 a3)
  else sgn (pick a0 a1 a2 a3 p) * half a0 a1 a2 a3

/-! ## The kernel -/

/-- The larger of the two values. -/
def big : ℝ := max (mx a0 a1 a2 a3) (half a0 a1 a2 a3)
/-- The smaller of the two values. -/
def small : ℝ := tot a0 a1 a2 a3 - big a0 a1 a2 a3
/-- The threshold of the first choice. -/
def t1 : ℝ := if small a0 a1 a2 a3 = 0 then (if tot a0 a1 a2 a3 = 0 then -1 else - tot a0 a1 a2 a3) else u * small a0 a1 a2 a3
/-- The threshold of the second choice. -/
def t4 : ℝ := small a0 a1 a2 a3 - t1 a0 a1 a2 a3 u
/-- The first choice. -/
def kLo : ℕ := if |a0| + |a1| ≤ t1 a0 a1 a2 a3 u then 2 else if |a0| ≤ t1 a0 a1 a2 a3 u then 1 else 0
/-- The second choice. -/
def kHi : ℕ := if t4 a0 a1 a2 a3 u ≤ |a3| then 3 else if t4 a0 a1 a2 a3 u ≤ |a2| + |a3| then 2 else 1
/-- The first choice's magnitude. -/
def mLo : ℝ := if big a0 a1 a2 a3 ≤ |pick a0 a1 a2 a3 (kLo a0 a1 a2 a3 u)| then big a0 a1 a2 a3 else small a0 a1 a2 a3
/-- The second choice's magnitude. -/
def mHi : ℝ := if big a0 a1 a2 a3 ≤ |pick a0 a1 a2 a3 (kLo a0 a1 a2 a3 u)| then small a0 a1 a2 a3 else big a0 a1 a2 a3

/-! ## They agree -/

theorem abs_le_mx : |a0| ≤ mx a0 a1 a2 a3 ∧ |a1| ≤ mx a0 a1 a2 a3 ∧ |a2| ≤ mx a0 a1 a2 a3 ∧ |a3| ≤ mx a0 a1 a2 a3 := by
  unfold mx
  refine ⟨?_, ?_, ?_, ?_⟩ <;> simp

/-- The largest magnitude is one of the four, and `jm` says which. -/
theorem mx_cases : (jm a0 a1 a2 a3 = 0 ∧ mx a0 a1 a2 a3 = |a0|) ∨ (jm a0 a1 a2 a3 = 1 ∧ mx a0 a1 a2 a3 = |a1| ∧ |a0| < |a1|) ∨
    (jm a0 a1 a2 a3 = 2 ∧ mx a0 a1 a2 a3 = |a2| ∧ |a0| < |a2| ∧ |a1| < |a2|) ∨
    (jm a0 a1 a2 a3 = 3 ∧ mx a0 a1 a2 a3 = |a3| ∧ |a0| < |a3| ∧ |a1| < |a3| ∧ |a2| < |a3|) := by
  obtain ⟨h0, h1, h2, h3⟩ := abs_le_mx a0 a1 a2 a3
  have hm : mx a0 a1 a2 a3 = |a0| ∨ mx a0 a1 a2 a3 = |a1| ∨ mx a0 a1 a2 a3 = |a2| ∨ mx a0 a1 a2 a3 = |a3| := by
    unfold mx
    rcases max_choice |a0| |a1| with h | h <;> rcases max_choice |a2| |a3| with h' | h' <;> rw [h, h'] <;>
      first
      | (rcases max_choice |a0| |a2| with h'' | h'' <;> rw [h''] <;> simp; done)
      | (rcases max_choice |a0| |a3| with h'' | h'' <;> rw [h''] <;> simp; done)
      | (rcases max_choice |a1| |a2| with h'' | h'' <;> rw [h''] <;> simp; done)
      | (rcases max_choice |a1| |a3| with h'' | h'' <;> rw [h''] <;> simp; done)
  unfold jm
  by_cases e0 : |a0| = mx a0 a1 a2 a3
  · simp [e0]
  · have l0 := lt_of_le_of_ne h0 e0
    by_cases e1 : |a1| = mx a0 a1 a2 a3
    · simp [e0, e1, l0]
    · have l1 := lt_of_le_of_ne h1 e1
      by_cases e2 : |a2| = mx a0 a1 a2 a3
      · simp [e0, e1, e2, l0, l1]
      · have l2 := lt_of_le_of_ne h2 e2
        have e3 : mx a0 a1 a2 a3 = |a3| := by
          rcases hm with h | h | h | h
          · exact absurd h.symm e0
          · exact absurd h.symm e1
          · exact absurd h.symm e2
          · exact h
        simp only [e0, e1, e2, if_false]
        rw [e3] at l0 l1 l2
        simp [e3, l0, l1, l2]

theorem tot_nonneg : 0 ≤ tot a0 a1 a2 a3 := by unfold tot; positivity

theorem mx_le_tot : mx a0 a1 a2 a3 ≤ tot a0 a1 a2 a3 := by
  unfold mx tot
  have := abs_nonneg a0; have := abs_nonneg a1; have := abs_nonneg a2; have := abs_nonneg a3
  refine max_le (max_le ?_ ?_) (max_le ?_ ?_) <;> linarith

/-- Where an element is half of the sum, it is the larger value. -/
theorem big_of_le (h : tot a0 a1 a2 a3 ≤ 2 * mx a0 a1 a2 a3) : big a0 a1 a2 a3 = mx a0 a1 a2 a3 := by
  unfold big half; exact max_eq_left (by linarith)
theorem small_of_le (h : tot a0 a1 a2 a3 ≤ 2 * mx a0 a1 a2 a3) : small a0 a1 a2 a3 = rest a0 a1 a2 a3 := by
  unfold small rest; rw [big_of_le _ _ _ _ h]
theorem big_of_not (h : ¬ tot a0 a1 a2 a3 ≤ 2 * mx a0 a1 a2 a3) : big a0 a1 a2 a3 = half a0 a1 a2 a3 := by
  unfold big half; exact max_eq_right (by linarith)
theorem small_of_not (h : ¬ tot a0 a1 a2 a3 ≤ 2 * mx a0 a1 a2 a3) : small a0 a1 a2 a3 = half a0 a1 a2 a3 := by
  unfold small; rw [big_of_not _ _ _ _ h]; unfold half; ring

/-- The two first choices agree, and so do the two second ones. -/
theorem choices (h0 : 0 ≤ u) (h1 : u < 1) : kLo a0 a1 a2 a3 u = lo a0 a1 a2 a3 u ∧ kHi a0 a1 a2 a3 u = hi a0 a1 a2 a3 u := by
  have p0 := abs_nonneg a0; have p1 := abs_nonneg a1; have p2 := abs_nonneg a2; have p3 := abs_nonneg a3
  obtain ⟨l0, l1, l2, l3⟩ := abs_le_mx a0 a1 a2 a3
  have hmt := mx_le_tot a0 a1 a2 a3
  by_cases hC : tot a0 a1 a2 a3 ≤ 2 * mx a0 a1 a2 a3
  · unfold kLo kHi t4 t1 lo hi sec
    rw [small_of_le _ _ _ _ hC, if_pos hC, if_pos hC]
    by_cases hr : rest a0 a1 a2 a3 = 0
    · simp only [hr, if_true]
      by_cases ht : tot a0 a1 a2 a3 = 0
      · have hz : |a0| = 0 ∧ |a1| = 0 ∧ |a2| = 0 ∧ |a3| = 0 := by
          unfold tot at ht; refine ⟨?_, ?_, ?_, ?_⟩ <;> linarith
        obtain ⟨z0, z1, z2, z3⟩ := hz
        rcases mx_cases a0 a1 a2 a3 with h | h | h | h
        · simp only [ht, if_true, z0, z1, z2, z3, h.1]; norm_num
        all_goals exact absurd (h.2.2) (by simp [z0, z1, z2, z3])
      · have htp := lt_of_le_of_ne (tot_nonneg a0 a1 a2 a3) (Ne.symm ht)
        simp only [ht, if_false]
        unfold rest at hr
        unfold tot at hr htp hmt hC ⊢
        clear ht
        rcases mx_cases a0 a1 a2 a3 with h | h | h | h <;> obtain ⟨hj, hm⟩ := h
        · simp (config := {decide := true}) only [hj, reduceIte]
          rw [hm] at hr
          constructor <;> (split_ifs <;> first | rfl | (exfalso; linarith))
        all_goals
          obtain ⟨hm, hl⟩ := hm
          simp (config := {decide := true}) only [hj, reduceIte]
          rw [hm] at hr
          constructor <;> (split_ifs <;> first | rfl | (exfalso; linarith))
    · have hrp : 0 < rest a0 a1 a2 a3 := lt_of_le_of_ne (by unfold rest; linarith) (Ne.symm hr)
      simp only [hr, if_false]
      have hT0 : 0 ≤ u * rest a0 a1 a2 a3 := by positivity
      have hT1 : u * rest a0 a1 a2 a3 < rest a0 a1 a2 a3 := by nlinarith
      have hR : rest a0 a1 a2 a3 = tot a0 a1 a2 a3 - mx a0 a1 a2 a3 := rfl
      generalize u * rest a0 a1 a2 a3 = T at *
      generalize rest a0 a1 a2 a3 = R at *
      unfold tot at hmt hC hR
      clear hr
      rcases mx_cases a0 a1 a2 a3 with h | h | h | h <;> obtain ⟨hj, hm⟩ := h
      · simp (config := {decide := true}) only [hj, reduceIte]
        rw [hm] at hR hC
        constructor <;> (split_ifs <;> first | rfl | (exfalso; linarith))
      all_goals
        obtain ⟨hm, hl⟩ := hm
        simp (config := {decide := true}) only [hj, reduceIte]
        rw [hm] at hR hC
        constructor <;> (split_ifs <;> first | rfl | (exfalso; linarith))
  · unfold kLo kHi t4 t1 lo hi second first cnt
    rw [small_of_not _ _ _ _ hC, if_neg hC, if_neg hC]
    have hp : 0 < half a0 a1 a2 a3 := by unfold half; linarith
    rw [if_neg hp.ne']
    have hT0 : 0 ≤ u * half a0 a1 a2 a3 := by positivity
    have hT1 : u * half a0 a1 a2 a3 < half a0 a1 a2 a3 := by nlinarith
    have hh : tot a0 a1 a2 a3 = 2 * half a0 a1 a2 a3 := by unfold half; ring
    generalize u * half a0 a1 a2 a3 = T at *
    generalize half a0 a1 a2 a3 = H at *
    rw [hh] at hC hmt
    unfold tot at hh
    have hC' := not_le.1 hC
    constructor <;> (split_ifs <;> first | rfl | (exfalso; linarith))

end Cert.Sel

end
-- ==== Proof.Vals.lean ====
/- One group of four real numbers: the values of the two choices, the same for the kernel and the reference, and their
   largest magnitude. -/
module

public import proofs.«01_k».proof.Proof.Sel

@[expose] public section

noncomputable section

namespace Cert.Sel

open Classical

variable (a0 a1 a2 a3 u : ℝ)

theorem sgn_mul_abs (x : ℝ) : sgn x * |x| = x := by
  unfold sgn
  split_ifs with h h'
  · rw [abs_of_pos h, one_mul]
  · rw [abs_of_neg h']; ring
  · have : x = 0 := by linarith
    simp [this]

theorem abs_sgn_le (x : ℝ) : |sgn x| ≤ 1 := by
  unfold sgn; split_ifs <;> simp

theorem abs_sgn_of_ne (x : ℝ) (h : x ≠ 0) : |sgn x| = 1 := by
  unfold sgn
  split_ifs with h1 h2
  · simp
  · simp
  · exact absurd (le_antisymm (not_lt.1 h1) (not_lt.1 h2)) h

/-- A number scaled past one and clipped is its sign. -/
theorem clip_sgn (x B : ℝ) (hB : 0 < B) (h : x = 0 ∨ 1 ≤ |x| * B) : min 1 (max (-1) (x * B)) = sgn x := by
  unfold sgn
  split_ifs with h1 h2
  · rcases h with h | h
    · exact absurd h h1.ne'
    · rw [abs_of_pos h1] at h
      rw [max_eq_right (by linarith), min_eq_left h]
  · rcases h with h | h
    · exact absurd h h2.ne
    · rw [abs_of_neg h2] at h
      rw [max_eq_left (by linarith), min_eq_right (by norm_num)]
  · have : x = 0 := by linarith
    subst this; simp

theorem abs_pick_jm : |pick a0 a1 a2 a3 (jm a0 a1 a2 a3)| = mx a0 a1 a2 a3 := by
  rcases mx_cases a0 a1 a2 a3 with h | h | h | h
  · rw [h.1, h.2]; rfl
  · rw [h.1, h.2.1]; rfl
  · rw [h.1, h.2.1]; rfl
  · rw [h.1, h.2.1]; rfl

theorem abs_pick_le (p : ℕ) : |pick a0 a1 a2 a3 p| ≤ mx a0 a1 a2 a3 := by
  obtain ⟨h0, h1, h2, h3⟩ := abs_le_mx a0 a1 a2 a3
  unfold pick; split_ifs <;> assumption

theorem sec_ne_jm : sec a0 a1 a2 a3 u ≠ jm a0 a1 a2 a3 := by
  unfold sec
  have : jm a0 a1 a2 a3 = 0 ∨ jm a0 a1 a2 a3 = 1 ∨ jm a0 a1 a2 a3 = 2 ∨ jm a0 a1 a2 a3 = 3 := by
    rcases mx_cases a0 a1 a2 a3 with h | h | h | h <;> simp [h.1]
  rcases this with h | h | h | h <;> rw [h] <;> simp (config := {decide := true}) only [reduceIte] <;> split_ifs <;> decide

theorem rest_nonneg : 0 ≤ rest a0 a1 a2 a3 := by unfold rest; linarith [mx_le_tot a0 a1 a2 a3]

theorem mx_nonneg : 0 ≤ mx a0 a1 a2 a3 := (abs_nonneg a0).trans (abs_le_mx a0 a1 a2 a3).1

theorem value_jm (h : tot a0 a1 a2 a3 ≤ 2 * mx a0 a1 a2 a3) (p : ℕ) (hp : p = jm a0 a1 a2 a3) :
    value a0 a1 a2 a3 p = sgn (pick a0 a1 a2 a3 p) * mx a0 a1 a2 a3 := by
  unfold value; rw [if_pos h, if_pos hp, hp, ← abs_pick_jm, sgn_mul_abs]

theorem value_ne (h : tot a0 a1 a2 a3 ≤ 2 * mx a0 a1 a2 a3) (p : ℕ) (hp : p ≠ jm a0 a1 a2 a3) :
    value a0 a1 a2 a3 p = sgn (pick a0 a1 a2 a3 p) * rest a0 a1 a2 a3 := by
  unfold value; rw [if_pos h, if_neg hp]
  split_ifs with hr
  · rw [hr, mul_zero]
  · rfl

/-- The first choice's value, the kernel's and the reference's. -/
theorem value_lo (h0 : 0 ≤ u) (h1 : u < 1) :
    sgn (pick a0 a1 a2 a3 (kLo a0 a1 a2 a3 u)) * mLo a0 a1 a2 a3 u = value a0 a1 a2 a3 (lo a0 a1 a2 a3 u) := by
  unfold mLo
  rw [(choices a0 a1 a2 a3 u h0 h1).1]
  by_cases hC : tot a0 a1 a2 a3 ≤ 2 * mx a0 a1 a2 a3
  · rw [big_of_le _ _ _ _ hC, small_of_le _ _ _ _ hC]
    by_cases hp : lo a0 a1 a2 a3 u = jm a0 a1 a2 a3
    · rw [value_jm _ _ _ _ hC _ hp, hp, abs_pick_jm, if_pos le_rfl]
    · rw [value_ne _ _ _ _ hC _ hp]
      congr 1
      have hle := abs_pick_le a0 a1 a2 a3 (lo a0 a1 a2 a3 u)
      have htie : mx a0 a1 a2 a3 ≤ |pick a0 a1 a2 a3 (lo a0 a1 a2 a3 u)| → mx a0 a1 a2 a3 = rest a0 a1 a2 a3 := by
        intro hge
        have hl : lo a0 a1 a2 a3 u < 4 := by
          rw [← (choices a0 a1 a2 a3 u h0 h1).1]; unfold kLo; split_ifs <;> omega
        revert hge hp
        generalize lo a0 a1 a2 a3 u = p at *
        intro hp hge
        have q0 := abs_nonneg a0; have q1 := abs_nonneg a1; have q2 := abs_nonneg a2; have q3 := abs_nonneg a3
        unfold rest
        unfold tot at hC ⊢
        have hp4 : p = 0 ∨ p = 1 ∨ p = 2 ∨ p = 3 := by omega
        rcases mx_cases a0 a1 a2 a3 with h | h | h | h <;> obtain ⟨hj, hm⟩ := h <;> rw [hj] at hp
        · rw [hm] at hge hC ⊢
          rcases hp4 with rfl | rfl | rfl | rfl <;> simp (config := {decide := true}) [pick] at hge hp <;> linarith
        all_goals
          obtain ⟨hm, -⟩ := hm
          rw [hm] at hge hC ⊢
          rcases hp4 with rfl | rfl | rfl | rfl <;> simp (config := {decide := true}) [pick] at hge hp <;> linarith
      split_ifs with hb
      · exact htie hb
      · rfl
  · rw [big_of_not _ _ _ _ hC, small_of_not _ _ _ _ hC]
    unfold value; rw [if_neg hC]; split_ifs <;> rfl

/-- The second choice's value, the kernel's and the reference's. -/
theorem value_hi (h0 : 0 ≤ u) (h1 : u < 1) :
    sgn (pick a0 a1 a2 a3 (kHi a0 a1 a2 a3 u)) * mHi a0 a1 a2 a3 u = value a0 a1 a2 a3 (hi a0 a1 a2 a3 u) := by
  unfold mHi
  rw [(choices a0 a1 a2 a3 u h0 h1).1, (choices a0 a1 a2 a3 u h0 h1).2]
  by_cases hC : tot a0 a1 a2 a3 ≤ 2 * mx a0 a1 a2 a3
  · rw [big_of_le _ _ _ _ hC, small_of_le _ _ _ _ hC]
    have hs := sec_ne_jm a0 a1 a2 a3 u
    have hlo : lo a0 a1 a2 a3 u = min (jm a0 a1 a2 a3) (sec a0 a1 a2 a3 u) := by unfold lo; rw [if_pos hC]
    have hhi : hi a0 a1 a2 a3 u = max (jm a0 a1 a2 a3) (sec a0 a1 a2 a3 u) := by unfold hi; rw [if_pos hC]
    by_cases hp : lo a0 a1 a2 a3 u = jm a0 a1 a2 a3
    · have hh : hi a0 a1 a2 a3 u ≠ jm a0 a1 a2 a3 := by omega
      rw [value_ne _ _ _ _ hC _ hh, hp, abs_pick_jm, if_pos le_rfl]
    · have hh : hi a0 a1 a2 a3 u = jm a0 a1 a2 a3 := by omega
      rw [value_jm _ _ _ _ hC _ hh]
      congr 1
      split_ifs with hb
      · have hv := value_lo a0 a1 a2 a3 u h0 h1
        have hne := value_ne _ _ _ _ hC _ hp
        unfold mLo at hv
        rw [(choices a0 a1 a2 a3 u h0 h1).1, big_of_le _ _ _ _ hC, if_pos hb, hne] at hv
        by_cases hz : pick a0 a1 a2 a3 (lo a0 a1 a2 a3 u) = 0
        · rw [hz, abs_zero] at hb
          have hm0 : mx a0 a1 a2 a3 = 0 := le_antisymm hb (mx_nonneg a0 a1 a2 a3)
          have := rest_nonneg a0 a1 a2 a3
          unfold rest at this ⊢
          linarith [tot_nonneg a0 a1 a2 a3]
        · have hsz : sgn (pick a0 a1 a2 a3 (lo a0 a1 a2 a3 u)) ≠ 0 := by
            intro h; have := abs_sgn_of_ne _ hz; rw [h, abs_zero] at this; exact zero_ne_one this
          exact (mul_left_cancel₀ hsz hv).symm
      · rfl
  · rw [big_of_not _ _ _ _ hC, small_of_not _ _ _ _ hC]
    unfold value; rw [if_neg hC]; split_ifs <;> rfl

/-- The larger magnitude of the two values. -/
theorem max_value (h0 : 0 ≤ u) (h1 : u < 1) :
    max |value a0 a1 a2 a3 (lo a0 a1 a2 a3 u)| |value a0 a1 a2 a3 (hi a0 a1 a2 a3 u)| = big a0 a1 a2 a3 := by
  by_cases hC : tot a0 a1 a2 a3 ≤ 2 * mx a0 a1 a2 a3
  · rw [big_of_le _ _ _ _ hC]
    have hs := sec_ne_jm a0 a1 a2 a3 u
    have hlo : lo a0 a1 a2 a3 u = min (jm a0 a1 a2 a3) (sec a0 a1 a2 a3 u) := by unfold lo; rw [if_pos hC]
    have hhi : hi a0 a1 a2 a3 u = max (jm a0 a1 a2 a3) (sec a0 a1 a2 a3 u) := by unfold hi; rw [if_pos hC]
    have hj : |value a0 a1 a2 a3 (jm a0 a1 a2 a3)| = mx a0 a1 a2 a3 := by
      have : value a0 a1 a2 a3 (jm a0 a1 a2 a3) = pick a0 a1 a2 a3 (jm a0 a1 a2 a3) := by unfold value; rw [if_pos hC, if_pos rfl]
      rw [this, abs_pick_jm]
    have hn : ∀ p, p ≠ jm a0 a1 a2 a3 → |value a0 a1 a2 a3 p| ≤ mx a0 a1 a2 a3 := by
      intro p hp
      rw [value_ne _ _ _ _ hC _ hp, abs_mul, abs_of_nonneg (rest_nonneg a0 a1 a2 a3)]
      calc _ ≤ 1 * rest a0 a1 a2 a3 := mul_le_mul_of_nonneg_right (abs_sgn_le _) (rest_nonneg a0 a1 a2 a3)
        _ ≤ _ := by unfold rest; linarith
    by_cases hp : lo a0 a1 a2 a3 u = jm a0 a1 a2 a3
    · rw [hp, hj]; exact max_eq_left (hn _ (by omega))
    · have hh : hi a0 a1 a2 a3 u = jm a0 a1 a2 a3 := by omega
      rw [hh, hj]; exact max_eq_right (hn _ hp)
  · rw [big_of_not _ _ _ _ hC]
    have hp : 0 < half a0 a1 a2 a3 := by unfold half; linarith [mx_nonneg a0 a1 a2 a3]
    have hv : ∀ p, value a0 a1 a2 a3 p = sgn (pick a0 a1 a2 a3 p) * half a0 a1 a2 a3 := by
      intro p; unfold value; rw [if_neg hC]
    have hne : pick a0 a1 a2 a3 (lo a0 a1 a2 a3 u) ≠ 0 := by
      have p0 := abs_nonneg a0; have p1 := abs_nonneg a1; have p2 := abs_nonneg a2
      obtain ⟨l0, l1, l2, l3⟩ := abs_le_mx a0 a1 a2 a3
      have hT0 : 0 ≤ u * half a0 a1 a2 a3 := by positivity
      have hT1 : u * half a0 a1 a2 a3 < half a0 a1 a2 a3 := by nlinarith
      rw [← (choices a0 a1 a2 a3 u h0 h1).1]
      unfold kLo t1
      rw [small_of_not _ _ _ _ hC, if_neg hp.ne']
      have hh : tot a0 a1 a2 a3 = 2 * half a0 a1 a2 a3 := by unfold half; ring
      generalize u * half a0 a1 a2 a3 = T at *
      generalize half a0 a1 a2 a3 = H at *
      rw [hh] at hC
      unfold tot at hh
      have hC' := not_le.1 hC
      intro hz
      have hz' := abs_eq_zero.2 hz
      clear hz
      revert hz'
      unfold pick
      split_ifs <;> intro hz' <;> first | omega | linarith
    rw [hv, hv, abs_mul, abs_mul, abs_of_pos hp, abs_sgn_of_ne _ hne, one_mul]
    refine max_eq_left ?_
    calc _ ≤ 1 * half a0 a1 a2 a3 := mul_le_mul_of_nonneg_right (abs_sgn_le _) hp.le
      _ = _ := one_mul _

theorem big_nonneg : 0 ≤ big a0 a1 a2 a3 := (mx_nonneg a0 a1 a2 a3).trans (le_max_left _ _)

/-- The larger value is zero or no less than the least element, and no more than twice the largest. -/
theorem big_range (L B : ℝ) (hB : 0 ≤ B) (h0 : a0 = 0 ∨ L ≤ |a0| ∧ |a0| ≤ B) (h1 : a1 = 0 ∨ L ≤ |a1| ∧ |a1| ≤ B)
    (h2 : a2 = 0 ∨ L ≤ |a2| ∧ |a2| ≤ B) (h3 : a3 = 0 ∨ L ≤ |a3| ∧ |a3| ≤ B) :
    (big a0 a1 a2 a3 = 0 ∨ L ≤ big a0 a1 a2 a3) ∧ big a0 a1 a2 a3 ≤ 2 * B := by
  have key : ∀ x : ℝ, (x = 0 ∨ L ≤ |x| ∧ |x| ≤ B) → |x| ≤ B ∧ (|x| = 0 ∨ L ≤ |x|) := by
    rintro x (rfl | h)
    · simp [hB]
    · exact ⟨h.2, Or.inr h.1⟩
  obtain ⟨b0, c0⟩ := key a0 h0
  obtain ⟨b1, c1⟩ := key a1 h1
  obtain ⟨b2, c2⟩ := key a2 h2
  obtain ⟨b3, c3⟩ := key a3 h3
  have hm : mx a0 a1 a2 a3 ≤ B := max_le (max_le b0 b1) (max_le b2 b3)
  have hmz : mx a0 a1 a2 a3 = 0 ∨ L ≤ mx a0 a1 a2 a3 := by
    rcases mx_cases a0 a1 a2 a3 with h | h | h | h
    · rw [h.2]; exact c0
    · rw [h.2.1]; exact c1
    · rw [h.2.1]; exact c2
    · rw [h.2.1]; exact c3
  refine ⟨?_, ?_⟩
  · rcases hmz with hz | hz
    · left
      obtain ⟨l0, l1, l2, l3⟩ := abs_le_mx a0 a1 a2 a3
      have : tot a0 a1 a2 a3 ≤ 0 := by unfold tot; linarith
      unfold big half
      rw [hz]; exact max_eq_left (by linarith)
    · right; exact hz.trans (le_max_left _ _)
  · unfold big
    refine max_le (by linarith) ?_
    unfold half tot; linarith

end Cert.Sel

end
-- ==== Proof.Words.lean ====
/- The float constants and the powers of two as real numbers. -/
module

public import proofs.«01_k».proof.Proof.Vals

@[expose] public section

noncomputable section

namespace Cert.Sel

open Idealize.ShloMosaic

theorem c_half : Ideal.ofBits .f32 0x3F000000#32 = (((1 : ℝ) / 2 : ℝ) : EReal) := by
  simp [Ideal.ofBits, Ideal.ieee, -EReal.coe_mul]; norm_num
theorem c_u : Ideal.ofBits .f32 0x33800000#32 = (((1 : ℝ) / 2 ^ 24 : ℝ) : EReal) := by
  simp [Ideal.ofBits, Ideal.ieee, -EReal.coe_mul]; norm_num
theorem c_max : Ideal.ofBits .f32 0x47600000#32 = ((57344 : ℝ) : EReal) := by
  simp [Ideal.ofBits, Ideal.ieee, -EReal.coe_mul]; norm_num
theorem c_min : Ideal.ofBits .f32 0xC7600000#32 = ((-57344 : ℝ) : EReal) := by
  simp [Ideal.ofBits, Ideal.ieee, -EReal.coe_mul, -EReal.coe_neg]; norm_num
theorem c_neg1 : Ideal.ofBits .f32 0xBF800000#32 = ((-1 : ℝ) : EReal) := by
  simp [Ideal.ofBits, Ideal.ieee, -EReal.coe_mul, -EReal.coe_neg]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee]
theorem c_big : Ideal.ofBits .f32 0x7F000000#32 = (((2 : ℝ) ^ 127 : ℝ) : EReal) := by
  simp [Ideal.ofBits, Ideal.ieee, -EReal.coe_mul, -EReal.coe_pow]; norm_num
/-- What the constant `1 / 57344` is at `f32`. -/
def inv : ℝ := 9586981 / 2 ^ 39
theorem c_inv : Ideal.ofBits .f32 0x37924925#32 = (inv : EReal) := by
  simp [Ideal.ofBits, Ideal.ieee, -EReal.coe_mul, inv]; norm_num

/-- What a word is, from its three fields: a finite number's exponent. -/
theorem ieee_pow {b : BitVec 32} {e : ℕ} (ha : (b.extractLsb' (8 + 23) 1 == 1#1) = false) (hb : (b.extractLsb' 23 8).toNat = e)
    (hc : (b.extractLsb' 0 23).toNat = 0) (h1 : 1 ≤ e) (h2 : e ≤ 254) : Ideal.ieee 8 23 b = (((2 : ℝ) ^ ((e : ℤ) - 127) : ℝ) : EReal) := by
  unfold Ideal.ieee
  dsimp only
  rw [ha, hb, hc, if_neg (by omega), if_neg (by omega)]
  congr 1
  simp only [Bool.false_eq_true, if_false, one_mul]
  rw [show ((2 ^ 23 + 0 : ℕ) : ℝ) = (2 : ℝ) ^ (23 : ℤ) by norm_num, ← zpow_add₀ (by norm_num)]
  congr 1; norm_num

/-- What a word is, from its three fields: an infinity. -/
theorem ieee_top {b : BitVec 32} (ha : (b.extractLsb' (8 + 23) 1 == 1#1) = false) (hb : (b.extractLsb' 23 8).toNat = 255)
    (hc : (b.extractLsb' 0 23).toNat = 0) : Ideal.ieee 8 23 b = ⊤ := by
  unfold Ideal.ieee
  dsimp only
  rw [ha, hb, hc]
  norm_num

/-- The fields of the word with only the exponent field `e`. -/
theorem field_word (b : BitVec 32) (e : ℕ) (he : e ≤ 255) (h : b.toNat = e * 8388608) :
    (b.extractLsb' (8 + 23) 1 == 1#1) = false ∧ (b.extractLsb' 23 8).toNat = e ∧ (b.extractLsb' 0 23).toNat = 0 := by
  refine ⟨?_, ?_, ?_⟩
  · have : (b.extractLsb' (8 + 23) 1).toNat = 0 := by
      rw [BitVec.extractLsb'_toNat, h, Nat.shiftRight_eq_div_pow]
      norm_num; omega
    have h : b.extractLsb' (8 + 23) 1 = 0#1 := BitVec.eq_of_toNat_eq this
    rw [h]; rfl
  · rw [BitVec.extractLsb'_toNat, h, Nat.shiftRight_eq_div_pow]
    norm_num; omega
  · rw [BitVec.extractLsb'_toNat, h, Nat.shiftRight_eq_div_pow]
    norm_num

/-- It is a power of two, where the field is a finite number's. -/
theorem ofBits_pow (b : BitVec 32) (e : ℕ) (h1 : 1 ≤ e) (h2 : e ≤ 254) (h : b.toNat = e * 8388608) :
    Ideal.ofBits .f32 b = (((2 : ℝ) ^ ((e : ℤ) - 127) : ℝ) : EReal) := by
  obtain ⟨ha, hb, hc⟩ := field_word b e (by omega) h
  exact ieee_pow ha hb hc h1 h2

/-- It is infinite, where the field is not. -/
theorem ofBits_top (b : BitVec 32) (e : ℕ) (he : e = 255) (h : b.toNat = e * 8388608) : Ideal.ofBits .f32 b = ⊤ := by
  obtain ⟨ha, hb, hc⟩ := field_word b e (by omega) h
  exact ieee_top ha (hb.trans he) hc

/-- The exponent of a positive number. -/
def ex (r : ℝ) : ℤ := ⌊Real.log r / Real.log 2⌋

theorem le_ex (r : ℝ) (hr : 0 < r) (k : ℤ) : k ≤ ex r ↔ (2 : ℝ) ^ k ≤ r := by
  unfold ex
  rw [Int.le_floor, le_div_iff₀ (Real.log_pos (by norm_num)), ← Real.log_zpow]
  exact Real.log_le_log_iff (by positivity) hr

theorem ex_zpow (k : ℤ) : ex ((2 : ℝ) ^ k) = k := by
  unfold ex
  rw [Real.log_zpow, mul_div_assoc, div_self (Real.log_pos (by norm_num)).ne', mul_one, Int.floor_intCast]

end Cert.Sel

end
-- ==== Proof.Elem.lean ====
/- The kernel's group functions read at one position where the elements are real numbers: they are the real functions. -/
module

public import proofs.«01_k».proof.Proof.Tile
public import proofs.«01_k».proof.Proof.Words

@[expose] public section

noncomputable section

namespace Cert.KernelIdeal.Tile

open Idealize.ShloMosaic Idealize.ShloMosaic.TcCoe
open Cert.KernelIdeal Cert.KernelIdeal.Gen
open Classical

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-- A choice between two real numbers by a comparison's bit. -/
theorem select_ofBool {α : Type} (p : Prop) [Decidable p] (a b : α) : Scalar.select (BitVec.ofBool (decide p)) a b = if p then a else b := by
  by_cases h : p <;> simp [Scalar.select, h]

section Group
variable {s : Shape} (A0 A1 A2 A3 U : FVec Ideal s .f32) (i : s.Idx) (a0 a1 a2 a3 u n : ℝ)

theorem absf_at (A : FVec Ideal s .f32) (a : ℝ) (h : A i = (a : EReal)) : absf A i = ((|a| : ℝ) : EReal) := by
  show max (A i) (-(A i)) = _
  rw [h, ← EReal.coe_neg, ← coe_max]; rfl

/-- Equality's bit on real numbers. -/
theorem cmp_eq (a b : ℝ) : Ideal.cmp .oeq (a : EReal) (b : EReal) = BitVec.ofBool (decide (a = b)) := by
  unfold Ideal.cmp; simp only [EReal.coe_eq_coe_iff]
/-- The bit of at most on real numbers. -/
theorem cmp_le (a b : ℝ) : Ideal.cmp .ole (a : EReal) (b : EReal) = BitVec.ofBool (decide (a ≤ b)) := by
  unfold Ideal.cmp; simp only [EReal.coe_le_coe_iff]
/-- The bit of at least on real numbers. -/
theorem cmp_ge (a b : ℝ) : Ideal.cmp .oge (a : EReal) (b : EReal) = BitVec.ofBool (decide (b ≤ a)) := by
  unfold Ideal.cmp; simp only [EReal.coe_le_coe_iff]
/-- The bit of less on real numbers. -/
theorem cmp_lt (a b : ℝ) : Ideal.cmp .olt (a : EReal) (b : EReal) = BitVec.ofBool (decide (a < b)) := by
  unfold Ideal.cmp; simp only [EReal.coe_lt_coe_iff]
/-- The bit of more on real numbers. -/
theorem cmp_gt (a b : ℝ) : Ideal.cmp .ogt (a : EReal) (b : EReal) = BitVec.ofBool (decide (b < a)) := by
  unfold Ideal.cmp; simp only [EReal.coe_lt_coe_iff]

variable (h0 : A0 i = (a0 : EReal)) (h1 : A1 i = (a1 : EReal)) (h2 : A2 i = (a2 : EReal)) (h3 : A3 i = (a3 : EReal))
include h0 h1 h2 h3

theorem tot_at : tot A0 A1 A2 A3 i = ((Sel.tot a0 a1 a2 a3 : ℝ) : EReal) := by
  show (absf A0 i + absf A1 i) + (absf A2 i + absf A3 i) = _
  rw [absf_at i A0 a0 h0, absf_at i A1 a1 h1, absf_at i A2 a2 h2, absf_at i A3 a3 h3, ← EReal.coe_add, ← EReal.coe_add, ← EReal.coe_add]
  unfold Sel.tot; congr 1; ring

theorem big_at : big A0 A1 A2 A3 i = ((Sel.big a0 a1 a2 a3 : ℝ) : EReal) := by
  show max (max (max (absf A0 i) (absf A1 i)) (max (absf A2 i) (absf A3 i))) (tot A0 A1 A2 A3 i * Ideal.ofBits .f32 0x3F000000#32) = _
  rw [absf_at i A0 a0 h0, absf_at i A1 a1 h1, absf_at i A2 a2 h2, absf_at i A3 a3 h3, tot_at A0 A1 A2 A3 i a0 a1 a2 a3 h0 h1 h2 h3,
    Sel.c_half, ← EReal.coe_mul, ← coe_max, ← coe_max, ← coe_max, ← coe_max]
  rfl

theorem small_at : small A0 A1 A2 A3 i = ((Sel.small a0 a1 a2 a3 : ℝ) : EReal) := by
  show tot A0 A1 A2 A3 i - big A0 A1 A2 A3 i = _
  rw [tot_at A0 A1 A2 A3 i a0 a1 a2 a3 h0 h1 h2 h3, big_at A0 A1 A2 A3 i a0 a1 a2 a3 h0 h1 h2 h3, ← EReal.coe_sub]
  rfl

variable (hU : U i = (n : EReal)) (hn : u = n * (1 / 2 ^ 24))
include hU hn

theorem t1_at : t1 A0 A1 A2 A3 U i = ((Sel.t1 a0 a1 a2 a3 u : ℝ) : EReal) := by
  show Scalar.select (Ideal.cmp .oeq (small A0 A1 A2 A3 i) (Ideal.ofBits .f32 0x00000000#32))
    (Scalar.select (Ideal.cmp .oeq (tot A0 A1 A2 A3 i) (Ideal.ofBits .f32 0x00000000#32)) (Ideal.ofBits .f32 0xBF800000#32)
      (Ideal.ofBits .f32 0x00000000#32 - tot A0 A1 A2 A3 i)) (U i * (small A0 A1 A2 A3 i * Ideal.ofBits .f32 0x33800000#32)) = _
  rw [tot_at A0 A1 A2 A3 i a0 a1 a2 a3 h0 h1 h2 h3, small_at A0 A1 A2 A3 i a0 a1 a2 a3 h0 h1 h2 h3, hU, Sel.c_zero, Sel.c_neg1, Sel.c_u,
    cmp_eq, cmp_eq, select_ofBool, select_ofBool, ← EReal.coe_sub, ← EReal.coe_mul, ← EReal.coe_mul]
  unfold Sel.t1
  split_ifs
  · rfl
  · rw [zero_sub]
  · rw [hn]; congr 1; ring

theorem t4_at : t4 A0 A1 A2 A3 U i = ((Sel.t4 a0 a1 a2 a3 u : ℝ) : EReal) := by
  show small A0 A1 A2 A3 i - t1 A0 A1 A2 A3 U i = _
  rw [small_at A0 A1 A2 A3 i a0 a1 a2 a3 h0 h1 h2 h3, t1_at A0 A1 A2 A3 U i a0 a1 a2 a3 u n h0 h1 h2 h3 hU hn, ← EReal.coe_sub]
  rfl

theorem aGe1_at : aGe1 A0 A1 A2 A3 U i = BitVec.ofBool (decide (|a0| ≤ Sel.t1 a0 a1 a2 a3 u)) := by
  show Ideal.cmp .ole (absf A0 i) (t1 A0 A1 A2 A3 U i) = _
  rw [absf_at i A0 a0 h0, t1_at A0 A1 A2 A3 U i a0 a1 a2 a3 u n h0 h1 h2 h3 hU hn, cmp_le]

theorem aGe2_at : aGe2 A0 A1 A2 A3 U i = BitVec.ofBool (decide (|a0| + |a1| ≤ Sel.t1 a0 a1 a2 a3 u)) := by
  show Ideal.cmp .ole (absf A0 i + absf A1 i) (t1 A0 A1 A2 A3 U i) = _
  rw [absf_at i A0 a0 h0, absf_at i A1 a1 h1, t1_at A0 A1 A2 A3 U i a0 a1 a2 a3 u n h0 h1 h2 h3 hU hn, ← EReal.coe_add, cmp_le]

theorem bGe2_at : bGe2 A0 A1 A2 A3 U i = BitVec.ofBool (decide (Sel.t4 a0 a1 a2 a3 u ≤ |a2| + |a3|)) := by
  show Ideal.cmp .oge (absf A2 i + absf A3 i) (t4 A0 A1 A2 A3 U i) = _
  rw [absf_at i A2 a2 h2, absf_at i A3 a3 h3, t4_at A0 A1 A2 A3 U i a0 a1 a2 a3 u n h0 h1 h2 h3 hU hn, ← EReal.coe_add, cmp_ge]

theorem bGe3_at : bGe3 A0 A1 A2 A3 U i = BitVec.ofBool (decide (Sel.t4 a0 a1 a2 a3 u ≤ |a3|)) := by
  show Ideal.cmp .oge (absf A3 i) (t4 A0 A1 A2 A3 U i) = _
  rw [absf_at i A3 a3 h3, t4_at A0 A1 A2 A3 U i a0 a1 a2 a3 u n h0 h1 h2 h3 hU hn, cmp_ge]

theorem xLo_at : xLo A0 A1 A2 A3 U i = ((Sel.pick a0 a1 a2 a3 (Sel.kLo a0 a1 a2 a3 u) : ℝ) : EReal) := by
  show Scalar.select (aGe2 A0 A1 A2 A3 U i) (A2 i) (Scalar.select (aGe1 A0 A1 A2 A3 U i) (A1 i) (A0 i)) = _
  rw [aGe1_at A0 A1 A2 A3 U i a0 a1 a2 a3 u n h0 h1 h2 h3 hU hn, aGe2_at A0 A1 A2 A3 U i a0 a1 a2 a3 u n h0 h1 h2 h3 hU hn, select_ofBool, select_ofBool,
    h0, h1, h2]
  unfold Sel.kLo
  split_ifs <;> rfl

theorem xHi_at : xHi A0 A1 A2 A3 U i = ((Sel.pick a0 a1 a2 a3 (Sel.kHi a0 a1 a2 a3 u) : ℝ) : EReal) := by
  show Scalar.select (bGe3 A0 A1 A2 A3 U i) (A3 i) (Scalar.select (bGe2 A0 A1 A2 A3 U i) (A2 i) (A1 i)) = _
  rw [bGe3_at A0 A1 A2 A3 U i a0 a1 a2 a3 u n h0 h1 h2 h3 hU hn, bGe2_at A0 A1 A2 A3 U i a0 a1 a2 a3 u n h0 h1 h2 h3 hU hn, select_ofBool, select_ofBool,
    h1, h2, h3]
  unfold Sel.kHi
  split_ifs <;> rfl

theorem loMax_at : loMax A0 A1 A2 A3 U i
    = BitVec.ofBool (decide (Sel.big a0 a1 a2 a3 ≤ |Sel.pick a0 a1 a2 a3 (Sel.kLo a0 a1 a2 a3 u)|)) := by
  show Ideal.cmp .oge (absf (xLo A0 A1 A2 A3 U) i) (big A0 A1 A2 A3 i) = _
  rw [absf_at i (xLo A0 A1 A2 A3 U) _ (xLo_at A0 A1 A2 A3 U i a0 a1 a2 a3 u n h0 h1 h2 h3 hU hn), big_at A0 A1 A2 A3 i a0 a1 a2 a3 h0 h1 h2 h3, cmp_ge]

theorem magLo_at : magLo A0 A1 A2 A3 U i = ((Sel.mLo a0 a1 a2 a3 u : ℝ) : EReal) := by
  show Scalar.select (loMax A0 A1 A2 A3 U i) (big A0 A1 A2 A3 i) (small A0 A1 A2 A3 i) = _
  rw [loMax_at A0 A1 A2 A3 U i a0 a1 a2 a3 u n h0 h1 h2 h3 hU hn, big_at A0 A1 A2 A3 i a0 a1 a2 a3 h0 h1 h2 h3,
    small_at A0 A1 A2 A3 i a0 a1 a2 a3 h0 h1 h2 h3, select_ofBool]
  unfold Sel.mLo
  split_ifs <;> rfl

theorem magHi_at : magHi A0 A1 A2 A3 U i = ((Sel.mHi a0 a1 a2 a3 u : ℝ) : EReal) := by
  show Scalar.select (loMax A0 A1 A2 A3 U i) (small A0 A1 A2 A3 i) (big A0 A1 A2 A3 i) = _
  rw [loMax_at A0 A1 A2 A3 U i a0 a1 a2 a3 u n h0 h1 h2 h3 hU hn, big_at A0 A1 A2 A3 i a0 a1 a2 a3 h0 h1 h2 h3,
    small_at A0 A1 A2 A3 i a0 a1 a2 a3 h0 h1 h2 h3, select_ofBool]
  unfold Sel.mHi
  split_ifs <;> rfl

theorem field_at : field A0 A1 A2 A3 U i = BitVec.ofNat 32 (Sel.kLo a0 a1 a2 a3 u + 4 * Sel.kHi a0 a1 a2 a3 u) := by
  show Scalar.select (aGe2 A0 A1 A2 A3 U i) 2#32 (Scalar.select (aGe1 A0 A1 A2 A3 U i) 1#32 0#32)
    + Scalar.select (bGe3 A0 A1 A2 A3 U i) 12#32 (Scalar.select (bGe2 A0 A1 A2 A3 U i) 8#32 4#32) = _
  rw [aGe1_at A0 A1 A2 A3 U i a0 a1 a2 a3 u n h0 h1 h2 h3 hU hn, aGe2_at A0 A1 A2 A3 U i a0 a1 a2 a3 u n h0 h1 h2 h3 hU hn,
    bGe3_at A0 A1 A2 A3 U i a0 a1 a2 a3 u n h0 h1 h2 h3 hU hn, bGe2_at A0 A1 A2 A3 U i a0 a1 a2 a3 u n h0 h1 h2 h3 hU hn]
  simp only [select_ofBool]
  unfold Sel.kLo Sel.kHi
  split_ifs <;> rfl

end Group

/-! ## The exponent -/

section Expo
variable {s : Shape} (x : FVec Ideal s .f32) (i : s.Idx)

theorem expStep_at (K : ℕ) (hx : ∀ (b : BitVec 32) (j : ℕ), 1 ≤ j → j ≤ 255 → b.toNat = j * 8388608 → (Ideal.ofBits .f32 b ≤ x i ↔ j ≤ K))
    (e : IVec s 32) (m k : ℕ) (hk : 1 ≤ k) (hmk : m + k ≤ 255) (he : e i = BitVec.ofNat 32 m) :
    expStep x (BitVec.ofNat 32 k) e i = BitVec.ofNat 32 (if m + k ≤ K then m + k else m) := by
  show Scalar.select (Ideal.cmp .oge (x i) (Ideal.ofBits .f32 (IntOp.shli .vector (e i + BitVec.ofNat 32 k) 23#32))) (e i + BitVec.ofNat 32 k) (e i) = _
  rw [he, ← BitVec.ofNat_add]
  have hw : (IntOp.shli .vector (BitVec.ofNat 32 (m + k)) 23#32).toNat = (m + k) * 8388608 := by
    have : IntOp.shli .vector (BitVec.ofNat 32 (m + k)) 23#32 = BitVec.ofNat 32 (m + k) <<< 23 := by
      unfold IntOp.shli; rw [if_pos (by decide)]; rfl
    rw [this, BitVec.toNat_shiftLeft, BitVec.toNat_ofNat, Nat.shiftLeft_eq]
    omega
  have := hx _ (m + k) (by omega) hmk hw
  unfold Ideal.cmp
  simp only
  rw [select_ofBool]
  simp only [this]
  split_ifs <;> rfl

/-- The search finds the bound of the comparisons that hold. -/
theorem expo_at (K : ℕ) (hK : K ≤ 255)
    (hx : ∀ (b : BitVec 32) (j : ℕ), 1 ≤ j → j ≤ 255 → b.toNat = j * 8388608 → (Ideal.ofBits .f32 b ≤ x i ↔ j ≤ K)) :
    expo x i = BitVec.ofNat 32 K := by
  unfold expo
  have h0 : (broadcast s 0#32 : IVec s 32) i = BitVec.ofNat 32 0 := rfl
  have h1 := (expStep_at x i K hx _ 0 128 (by omega) (by omega) h0).trans (congrArg (BitVec.ofNat 32) (show _ = (K / 128 * 128) by split_ifs <;> omega))
  have h2 := (expStep_at x i K hx _ (K / 128 * 128) 64 (by omega) (by omega) h1).trans (congrArg (BitVec.ofNat 32) (show _ = (K / 64 * 64) by split_ifs <;> omega))
  have h3 := (expStep_at x i K hx _ (K / 64 * 64) 32 (by omega) (by omega) h2).trans (congrArg (BitVec.ofNat 32) (show _ = (K / 32 * 32) by split_ifs <;> omega))
  have h4 := (expStep_at x i K hx _ (K / 32 * 32) 16 (by omega) (by omega) h3).trans (congrArg (BitVec.ofNat 32) (show _ = (K / 16 * 16) by split_ifs <;> omega))
  have h5 := (expStep_at x i K hx _ (K / 16 * 16) 8 (by omega) (by omega) h4).trans (congrArg (BitVec.ofNat 32) (show _ = (K / 8 * 8) by split_ifs <;> omega))
  have h6 := (expStep_at x i K hx _ (K / 8 * 8) 4 (by omega) (by omega) h5).trans (congrArg (BitVec.ofNat 32) (show _ = (K / 4 * 4) by split_ifs <;> omega))
  have h7 := (expStep_at x i K hx _ (K / 4 * 4) 2 (by omega) (by omega) h6).trans (congrArg (BitVec.ofNat 32) (show _ = (K / 2 * 2) by split_ifs <;> omega))
  have h8 := (expStep_at x i K hx _ (K / 2 * 2) 1 (by omega) (by omega) h7).trans (congrArg (BitVec.ofNat 32) (show _ = K by split_ifs <;> omega))
  exact h8

/-- The search on a positive number of an exponent in range. -/
theorem expo_pos (r : ℝ) (h : x i = (r : EReal)) (hr : 0 < r) (h1 : -127 ≤ Sel.ex r) (h2 : Sel.ex r ≤ 127) :
    expo x i = BitVec.ofNat 32 (Sel.ex r + 127).toNat := by
  refine expo_at x i _ (by omega) fun b j hj1 hj2 hb => ?_
  rw [h]
  by_cases hj : j ≤ 254
  · rw [Sel.ofBits_pow b j hj1 hj hb, EReal.coe_le_coe_iff, ← Sel.le_ex r hr]
    omega
  · rw [Sel.ofBits_top b j (by omega) hb]
    have : ¬ (⊤ : EReal) ≤ (r : EReal) := not_le.2 (EReal.coe_lt_top r)
    simp only [this, false_iff]; omega

/-- The search on zero. -/
theorem expo_zero (h : x i = 0) : expo x i = 0#32 := by
  refine expo_at x i 0 (by omega) fun b j hj1 hj2 hb => ?_
  rw [h]
  by_cases hj : j ≤ 254
  · rw [Sel.ofBits_pow b j hj1 hj hb, ← EReal.coe_zero, EReal.coe_le_coe_iff]
    have : ¬ (2 : ℝ) ^ ((j : ℤ) - 127) ≤ 0 := not_le.2 (by positivity)
    simp only [this, false_iff]; omega
  · rw [Sel.ofBits_top b j (by omega) hb]
    simp only [top_le_iff, EReal.zero_ne_top, false_iff]; omega

end Expo

end Cert.KernelIdeal.Tile

end
-- ==== Proof.Scale.lean ====
/- A block's power of two and a code, read at one position where the block's largest value and the elements are real numbers. -/
module

public import proofs.«01_k».proof.Proof.Elem

@[expose] public section

noncomputable section

namespace Cert.Sel

/-- The power of two a block is scaled by, from its largest value over the largest code. -/
def fac (N : ℝ) : ℝ := if N = 0 then 1 else (2 : ℝ) ^ (-(ex N) - 1)
/-- The scale's byte. -/
def code (N : ℝ) : ℕ := if N = 0 then 127 else (ex N + 128).toNat
/-- The numbers the blocks' largest values are, over the largest code. -/
def InRange (N : ℝ) : Prop := N = 0 ∨ 0 < N ∧ -127 ≤ ex N ∧ ex N ≤ 125
/-- The least magnitude of an element that is not zero. -/
def least : ℝ := 57344 * (1 / 2 ^ 127)
/-- The largest magnitude. -/
def most : ℝ := 2 ^ 128

theorem inRange (M : ℝ) (h : M = 0 ∨ least ≤ M) (hB : M ≤ 2 * most) : InRange (M * inv) := by
  rcases h with h | h
  · left; rw [h, zero_mul]
  · right
    have hl : (2 : ℝ) ^ (-127 : ℤ) ≤ M * inv := by
      have : (2 : ℝ) ^ (-127 : ℤ) ≤ least * inv := by unfold least inv; norm_num
      exact this.trans (mul_le_mul_of_nonneg_right h (by unfold inv; norm_num))
    have hp : 0 < M * inv := lt_of_lt_of_le (by positivity) hl
    refine ⟨hp, (le_ex _ hp _).2 hl, ?_⟩
    by_contra hc
    have h2 := (le_ex _ hp 126).1 (by omega)
    have : M * inv ≤ 2 * most * inv := mul_le_mul_of_nonneg_right hB (by unfold inv; norm_num)
    have h3 : 2 * most * inv < (2 : ℝ) ^ (126 : ℤ) := by unfold most inv; norm_num
    linarith

/-- A clipped code. -/
def clip (v : ℝ) : ℝ := min 57344 (max (-57344) v)

end Cert.Sel

namespace Cert.KernelIdeal.Tile

open Idealize.ShloMosaic Idealize.ShloMosaic.TcCoe
open Cert.KernelIdeal Cert.KernelIdeal.Gen
open Classical

theorem scale8_at (n : FVec Ideal S8x128 .f32) (i : S8x128.Idx) (N : ℝ) (h : n i = (N : EReal)) (hN : Sel.InRange N) :
    scale8 n i = ((Sel.fac N : ℝ) : EReal) := by
  show Scalar.select (Ideal.cmp .oeq (n i) (Ideal.ofBits .f32 0x00000000#32)) (Ideal.ofBits .f32 0x3F800000#32)
    (Ideal.ofBits .f32 (2122317824#32 - IntOp.shli .vector (expo n i) 23#32)) = _
  rw [h, Sel.c_zero, Sel.c_one, cmp_eq, select_ofBool]
  unfold Sel.fac
  rcases hN with h0 | ⟨h0, h1, h2⟩
  · rw [if_pos h0, if_pos h0]
  · rw [if_neg h0.ne', if_neg h0.ne', expo_pos n i N h h0 h1 (by omega)]
    obtain ⟨E, hE⟩ : ∃ E : ℕ, Sel.ex N = (E : ℤ) - 127 := ⟨(Sel.ex N + 127).toNat, by omega⟩
    have hE' : (Sel.ex N + 127).toNat = E := by omega
    rw [hE']
    have hw : (2122317824#32 - IntOp.shli .vector (BitVec.ofNat 32 E) 23#32).toNat = (253 - E) * 8388608 := by
      have : IntOp.shli .vector (BitVec.ofNat 32 E) 23#32 = BitVec.ofNat 32 E <<< 23 := by
        unfold IntOp.shli; rw [if_pos (by decide)]; rfl
      rw [this, BitVec.toNat_sub, BitVec.toNat_shiftLeft, BitVec.toNat_ofNat, BitVec.toNat_ofNat, Nat.shiftLeft_eq]
      omega
    generalize (2122317824#32 - IntOp.shli .vector (BitVec.ofNat 32 E) 23#32) = W at hw ⊢
    rw [Sel.ofBits_pow W (253 - E) (by omega) (by omega) hw]
    congr 2
    omega

theorem scales_at (f : FVec Ideal S32x288 .f32) (i : S32x288.Idx) (N : ℝ) (h : f i = ((Sel.fac N : ℝ) : EReal)) (hN : Sel.InRange N) :
    scales f i = BitVec.ofNat 8 (Sel.code N) := by
  show BitVec.setWidth 8 (254#32 - expo f i) = _
  obtain ⟨k, hk, h1, h2, hc⟩ : ∃ k : ℤ, Sel.fac N = (2 : ℝ) ^ k ∧ -126 ≤ k ∧ k ≤ 126 ∧ (Sel.code N : ℤ) = 127 - k := by
    unfold Sel.fac Sel.code
    rcases hN with h0 | ⟨h0, h1, h2⟩
    · exact ⟨0, by rw [if_pos h0, zpow_zero], by omega, by omega, by rw [if_pos h0]; rfl⟩
    · exact ⟨-(Sel.ex N) - 1, by rw [if_neg h0.ne'], by omega, by omega, by rw [if_neg h0.ne']; omega⟩
  rw [hk] at h
  rw [expo_pos f i _ h (by positivity) (by rw [Sel.ex_zpow]; omega) (by rw [Sel.ex_zpow]; omega), Sel.ex_zpow]
  apply BitVec.eq_of_toNat_eq
  rw [BitVec.toNat_setWidth, BitVec.toNat_sub, BitVec.toNat_ofNat, BitVec.toNat_ofNat, BitVec.toNat_ofNat]
  omega

theorem quant_at {s : Shape} (x mag f : FVec Ideal s .f32) (i : s.Idx) (x' m φ : ℝ) (hx : x i = (x' : EReal)) (hm : mag i = (m : EReal))
    (hf : f i = (φ : EReal)) (h : x' = 0 ∨ Sel.least ≤ |x'|) :
    quant x mag f i = ((Sel.clip (Sel.sgn x' * m * φ) : ℝ) : EReal) := by
  show min (Ideal.ofBits .f32 0x47600000#32) (max (Ideal.ofBits .f32 0xC7600000#32)
    (min (Ideal.ofBits .f32 0x3F800000#32) (max (Ideal.ofBits .f32 0xBF800000#32) (x i * Ideal.ofBits .f32 0x7F000000#32)) * (mag i * f i))) = _
  rw [hx, hm, hf, Sel.c_max, Sel.c_min, Sel.c_one, Sel.c_neg1, Sel.c_big, ← EReal.coe_mul, ← EReal.coe_mul, ← coe_max, ← coe_min,
    Sel.clip_sgn x' (2 ^ 127) (by positivity), ← EReal.coe_mul, ← coe_max, ← coe_min, mul_assoc]
  · rfl
  · rcases h with h | h
    · exact Or.inl h
    · right
      unfold Sel.least at h
      rw [mul_one_div, div_le_iff₀ (by positivity)] at h
      linarith

end Cert.KernelIdeal.Tile

end
-- ==== Proof.Planes.lean ====
/- A tile's loads read at one lane: the four planes, the random number, the lane gathers. -/
module
public import proofs.«01_k».proof.Proof.Scale
public import Idealize.ShloMosaic.Lib.ValueIdx
public import Idealize.ShloMosaic.Lib.ValueLayout
@[expose] public section
set_option maxRecDepth 16384
noncomputable section
namespace Cert.KernelIdeal.Tile
open Idealize.ShloMosaic Idealize.ShloMosaic.TcCoe
open Cert.KernelIdeal Cert.KernelIdeal.Gen

/-- The group that stands at lane `l`. -/
def grp (l : ℕ) : ℕ := 16 * (l % 8) + l / 8
/-- The lane of group `q`. -/
def lane (q : ℕ) : ℕ := q % 16 * 8 + q / 16

theorem lane_grp (l : ℕ) (h : l < 128) : lane (grp l) = l := by unfold lane grp; omega
theorem grp_lane (q : ℕ) (h : q < 128) : grp (lane q) = q := by unfold lane grp; omega
theorem grp_lt (l : ℕ) (h : l < 128) : grp l < 128 := by unfold grp; omega
theorem lane_lt (q : ℕ) (h : q < 128) : lane q < 128 := by unfold lane; omega

theorem cat512 (G : Fin 4 → Vec Ideal S32x512 .bf16) (p : Fin 128) (c : Fin 512) :
  (concatenate S128x512 0 [⟨S32x512, shapeCast S32x512 (G 0) shapeCasts_S32x512_S32x512⟩, ⟨S32x512, shapeCast S32x512 (G 1) shapeCasts_S32x512_S32x512⟩,
      ⟨S32x512, shapeCast S32x512 (G 2) shapeCasts_S32x512_S32x512⟩, ⟨S32x512, shapeCast S32x512 (G 3) shapeCasts_S32x512_S32x512⟩]
      concatenates_S32x512_S32x512_S32x512_S32x512_S128x512_d0) (ix2 p c) = G ⟨p.val / 32, by omega⟩ (ix2 ⟨p.val % 32, by omega⟩ c) := by
  refine (concatenate_ofFn_apply (s₁ := S32x512) (0 : Fin S128x512.rank) (fun n => shapeCast S32x512 (G n) shapeCasts_S32x512_S32x512) concatenates_S32x512_S32x512_S32x512_S32x512_S128x512_d0 rfl 32 rfl (ix2 p c) ⟨p.val / 32, by omega⟩ rfl (ix2 ⟨p.val % 32, by omega⟩ c) rfl ?_).trans (by rw [shapeCast_id])
  intro b hb
  match b with
  | ⟨0, _⟩ => exact absurd rfl hb
  | ⟨1, _⟩ => rfl

theorem planes_at (G : Fin 4 → Vec Ideal S32x512 .bf16) (P : Vec Ideal S512x512 .bf16)
    (hP : ∀ a b : Fin 512, P (ix2 a b) = if b.val = 128 * (a.val % 4) + lane (a.val / 4) then 1 else 0)
    (p : Fin 128) (k : Fin 4) (l : Fin 128) (c : Fin 512) (hc : c.val = 128 * k.val + l.val) :
    planes G P (ix2 p c) = G ⟨p.val / 32, by omega⟩ (ix2 ⟨p.val % 32, by omega⟩ ⟨4 * grp l.val + k.val, by unfold grp; omega⟩) := by
  have h : planes G P (ix2 p c) = ∑ j : Fin 512, G ⟨p.val / 32, by omega⟩ (ix2 ⟨p.val % 32, by omega⟩ j) * P (ix2 j c) := by
    unfold planes
    refine (Ideal.matmul_apply₁ _ rfl rfl _ _ _ _).trans ?_
    rw [show (constant S128x512 .f32 0x00000000#32 : FVec Ideal S128x512 .f32) (ix2 p c) = 0 from Ideal.ofBits_zero_f32, zero_add]
    refine Finset.sum_congr rfl fun j _ => ?_
    refine congrArg₂ _ ((congrArg _ ?_).trans (cat512 G p j)) ((congrFun (shapeCast_id P _) _).trans (congrArg P ?_))
    · funext b; match b with | ⟨0, _⟩ => rfl | ⟨1, _⟩ => rfl
    · funext b; match b with | ⟨0, _⟩ => rfl | ⟨1, _⟩ => rfl
  rw [h, Finset.sum_eq_single ⟨4 * grp l.val + k.val, by unfold grp; omega⟩]
  · rw [hP, if_pos, mul_one]
    show c.val = 128 * ((4 * grp l.val + k.val) % 4) + lane ((4 * grp l.val + k.val) / 4)
    rw [show (4 * grp l.val + k.val) / 4 = grp l.val by omega, lane_grp _ l.isLt]; omega
  · intro j _ hj
    rw [hP, if_neg, mul_zero]
    intro hcj
    apply hj
    apply Fin.ext
    have hj4 : j.val / 4 < 128 := by omega
    have := lane_lt _ hj4
    have hl : lane (j.val / 4) = l.val := by omega
    have hg := grp_lane _ hj4
    rw [hl] at hg
    show j.val = 4 * grp l.val + k.val
    omega
  · intro h; exact absurd (Finset.mem_univ _) h

/-! ## The four planes -/

section P
variable (G : Fin 4 → Vec Ideal S32x512 .bf16) (P : Vec Ideal S512x512 .bf16)
  (hP : ∀ a b : Fin 512, P (ix2 a b) = if b.val = 128 * (a.val % 4) + lane (a.val / 4) then 1 else 0) (p l : Fin 128)

/-- Element `k` of the group at row `p` and lane `l`. -/
def elem (k : Fin 4) : EReal := G ⟨p.val / 32, by omega⟩ (ix2 ⟨p.val % 32, by omega⟩ ⟨4 * grp l.val + k.val, by unfold grp; omega⟩)

include hP

theorem p0_at : p0 G P (ix2 p l) = elem G p l 0 :=
  (extractStridedSlice_apply ![0, 0] (planes G P) slices_S128x512_o0_0_S128x128 (ix2 p l) (ix2 p ⟨0 + l.val, by omega⟩)
    (fun b => by match b with | ⟨0, _⟩ => exact (Nat.zero_add _).symm | ⟨1, _⟩ => rfl)).trans (planes_at G P hP p 0 l _ rfl)
theorem p1_at : p1 G P (ix2 p l) = elem G p l 1 :=
  (extractStridedSlice_apply ![0, 128] (planes G P) slices_S128x512_o0_128_S128x128 (ix2 p l) (ix2 p ⟨128 + l.val, by omega⟩)
    (fun b => by match b with | ⟨0, _⟩ => exact (Nat.zero_add _).symm | ⟨1, _⟩ => rfl)).trans (planes_at G P hP p 1 l _ rfl)
theorem p2_at : p2 G P (ix2 p l) = elem G p l 2 :=
  (extractStridedSlice_apply ![0, 256] (planes G P) slices_S128x512_o0_256_S128x128 (ix2 p l) (ix2 p ⟨256 + l.val, by omega⟩)
    (fun b => by match b with | ⟨0, _⟩ => exact (Nat.zero_add _).symm | ⟨1, _⟩ => rfl)).trans (planes_at G P hP p 2 l _ rfl)
theorem p3_at : p3 G P (ix2 p l) = elem G p l 3 :=
  (extractStridedSlice_apply ![0, 384] (planes G P) slices_S128x512_o0_384_S128x128 (ix2 p l) (ix2 p ⟨384 + l.val, by omega⟩)
    (fun b => by match b with | ⟨0, _⟩ => exact (Nat.zero_add _).symm | ⟨1, _⟩ => rfl)).trans (planes_at G P hP p 3 l _ rfl)
end P

/-! ## The lane gathers -/

/-- A row's lane number, at any row. -/
theorem laneIdx_at {a : ℕ} {s1 : Shape} (hb : S1x128.Broadcasts ⟨2, ![a, 128]⟩) (h1 : (⟨2, ![a, 128]⟩ : Shape).ShapeCasts s1)
    (h2 : s1.ShapeCasts ⟨2, ![a, 128]⟩) (i : IVec S1x128 32) (l : Fin 128) (v : ℕ) (hv : v < 128) (hi : i (ix2 0 l) = BitVec.ofNat 32 v) (p : Fin a) :
    laneIdx hb h1 h2 i (ix2 p l) = BitVec.ofNat 32 v := by
  unfold laneIdx
  have hb' : (broadcastTo ⟨2, ![a, 128]⟩ (shapeCast S1x128 i shapeCasts_S1x128_S1x128) hb) (ix2 p l) = BitVec.ofNat 32 v := by
    refine (broadcastTo_apply _ hb (ix2 p l) (ix2 0 l) ?_).trans (by rw [shapeCast_id, hi])
    intro b; match b with | ⟨0, _⟩ => rfl | ⟨1, _⟩ => rfl
  rw [shapeCast_shapeCast]
  show Scalar.select (IntOp.cmpi .slt (broadcastTo _ _ hb (ix2 p l)) 0#32) (broadcastTo _ _ hb (ix2 p l) + 128#32) (broadcastTo _ _ hb (ix2 p l)) = _
  rw [hb']
  have : IntOp.cmpi .slt (BitVec.ofNat 32 v) 0#32 = 0#1 := by
    unfold IntOp.cmpi
    have h : (BitVec.ofNat 32 v).slt 0#32 = false := by
      rw [BitVec.slt_eq_decide, decide_eq_false_iff_not, BitVec.toInt_eq_toNat_of_lt (by rw [BitVec.toNat_ofNat]; omega)]
      simp; omega
    simp [h]
  rw [this]; rfl

theorem gather_at {a : ℕ} {α : Type} (x : (⟨2, ![a, 128]⟩ : Shape).Idx → α) (w : IVec ⟨2, ![a, 128]⟩ 32) (p : Fin a) (l : Fin 128) (v : ℕ)
    (hv : v < 128) (hw : w (ix2 p l) = BitVec.ofNat 32 v) : dynamicGather 1 x w (ix2 p l) = x (ix2 p ⟨v, hv⟩) := by
  unfold dynamicGather
  refine congrArg x (funext fun b => ?_)
  match b with
  | ⟨0, _⟩ => rfl
  | ⟨1, _⟩ =>
    apply Fin.ext
    show (w (ix2 p l)).toNat % 128 = v
    rw [hw, BitVec.toNat_ofNat]; omega

/-- What the rows of lane numbers hold. -/
structure Lanes (I : Fin 5 → IVec S1x128 32) : Prop where
  rand : ∀ l : Fin 128, I 0 (ix2 0 l) = BitVec.ofNat 32 (grp l.val)
  codes0 : ∀ l : Fin 128, I 1 (ix2 0 l) = BitVec.ofNat 32 (lane (l.val / 2))
  codes1 : ∀ l : Fin 128, I 2 (ix2 0 l) = BitVec.ofNat 32 (lane (64 + l.val / 2))
  meta0 : ∀ l : Fin 128, I 3 (ix2 0 l) = BitVec.ofNat 32 (lane (2 * (l.val % 64)))
  meta1 : ∀ l : Fin 128, I 4 (ix2 0 l) = BitVec.ofNat 32 (lane (2 * (l.val % 64)))

/-- The random number of the group at row `p` and lane `l`. -/
def rword (R : Fin 4 → Vec Ideal S32x128 .i32) (p l : Fin 128) : BitVec 32 :=
  R ⟨p.val / 32, by omega⟩ (ix2 ⟨p.val % 32, by omega⟩ ⟨grp l.val, grp_lt _ l.isLt⟩)

theorem cat128 (R : Fin 4 → Vec Ideal S32x128 .i32) (p : Fin 128) (c : Fin 128) :
    (concatenate S128x128 0 [⟨S32x128, shapeCast S32x128 (R 0) shapeCasts_S32x128_S32x128⟩,
    ⟨S32x128, shapeCast S32x128 (R 1) shapeCasts_S32x128_S32x128⟩, ⟨S32x128, shapeCast S32x128 (R 2) shapeCasts_S32x128_S32x128⟩,
    ⟨S32x128, shapeCast S32x128 (R 3) shapeCasts_S32x128_S32x128⟩] concatenates_S32x128_S32x128_S32x128_S32x128_S128x128_d0) (ix2 p c)
      = R ⟨p.val / 32, by omega⟩ (ix2 ⟨p.val % 32, by omega⟩ c) := by
  refine (concatenate_ofFn_apply (s₁ := S32x128) (0 : Fin S128x128.rank) (fun n => shapeCast S32x128 (R n) shapeCasts_S32x128_S32x128)
    concatenates_S32x128_S32x128_S32x128_S32x128_S128x128_d0 rfl 32 rfl (ix2 p c) ⟨p.val / 32, by omega⟩ rfl (ix2 ⟨p.val % 32, by omega⟩ c) rfl ?_).trans
    (by rw [shapeCast_id])
  intro b hb
  match b with
  | ⟨0, _⟩ => exact absurd rfl hb
  | ⟨1, _⟩ => rfl

theorem rnd_at (R : Fin 4 → Vec Ideal S32x128 .i32) (i0 : IVec S1x128 32) (hi : ∀ l : Fin 128, i0 (ix2 0 l) = BitVec.ofNat 32 (grp l.val)) (p l : Fin 128) :
    rnd R i0 (ix2 p l) = ((((rword R p l).toNat / 256 : ℕ) : ℝ) : EReal) := by
  have hg := grp_lt _ l.isLt
  have h : gather128 _ i0 (ix2 p l) = rword R p l :=
    (gather_at _ _ p l (grp l.val) hg (laneIdx_at _ _ _ i0 l _ hg (hi l) p)).trans (cat128 R p _)
  show (((IntOp.shrui .vector (gather128 _ i0 (ix2 p l)) 8#32).toInt : ℝ) : EReal) = _
  rw [h]
  generalize rword R p l = w
  have h8 : IntOp.shrui .vector w 8#32 = w >>> 8 := by unfold IntOp.shrui; rw [if_pos (by decide)]; rfl
  have hlt := w.isLt
  rw [h8, BitVec.toInt_eq_toNat_of_lt (by rw [BitVec.toNat_ushiftRight, Nat.shiftRight_eq_div_pow]; omega), BitVec.toNat_ushiftRight,
    Nat.shiftRight_eq_div_pow, Int.cast_natCast]

/-! ## The block maxima and the scales -/

theorem slice8_at (b : FVec Ideal S128x128 .f32) (o : ℕ) (ho : o + 8 ≤ 128) (h : S128x128.Slices ![o, 0] S8x128) (j : Fin 8) (p : Fin 128) :
    extractStridedSlice S8x128 ![o, 0] (transpose S128x128 [1, 0] b transposes_S128x128_p1_0_S128x128) h (ix2 j p) = b (ix2 p ⟨o + j.val, by omega⟩) := by
  refine (extractStridedSlice_apply ![o, 0] _ h (ix2 j p) (ix2 ⟨o + j.val, by omega⟩ p) ?_).trans
    (ValueIdx.transpose_ix2_apply b _ _ _)
  intro b; match b with | ⟨0, _⟩ => rfl | ⟨1, _⟩ => exact (Nat.zero_add _).symm

/-- A fold over sixteen numbers, written out. -/
theorem fold_max16 (f : Fin 16 → EReal) : Finset.univ.fold max ⊥ f
    = max (max (max (max (max (max (max (max (max (max (max (max (max (max (max (f 0) (f 1)) (f 2)) (f 3)) (f 4)) (f 5)) (f 6)) (f 7)) (f 8)) (f 9))
      (f 10)) (f 11)) (f 12)) (f 13)) (f 14)) (f 15) := by
  apply le_antisymm
  · rw [Finset.fold_max_le]
    refine ⟨bot_le, fun k _ => ?_⟩
    fin_cases k <;> simp
  · simp only [max_le_iff]
    have h : ∀ k, f k ≤ Finset.univ.fold max ⊥ f := fun k => (Finset.le_fold_max (f k)).2 (Or.inr ⟨k, Finset.mem_univ _, le_rfl⟩)
    simp [h]

/-- The largest of a block's sixteen groups, which stand eight lanes apart. -/
theorem amax_at (b : FVec Ideal S128x128 .f32) (j : Fin 8) (p : Fin 128) :
    amax b (ix2 j p) = Finset.univ.fold max ⊥ fun k : Fin 16 => b (ix2 p ⟨8 * k.val + j.val, by omega⟩) := by
  unfold amax
  have h : ∀ x y : FVec Ideal S8x128 .f32, maximumf x y (ix2 j p) = max (x (ix2 j p)) (y (ix2 j p)) := fun _ _ => rfl
  rw [h, h, h, h, h, h, h, h, h, h, h, h, h, h, h]
  rw [slice8_at b 0 (by omega), slice8_at b 8 (by omega), slice8_at b 16 (by omega), slice8_at b 24 (by omega), slice8_at b 32 (by omega),
    slice8_at b 40 (by omega), slice8_at b 48 (by omega), slice8_at b 56 (by omega), slice8_at b 64 (by omega), slice8_at b 72 (by omega),
    slice8_at b 80 (by omega), slice8_at b 88 (by omega), slice8_at b 96 (by omega), slice8_at b 104 (by omega), slice8_at b 112 (by omega),
    slice8_at b 120 (by omega)]
  rw [fold_max16]
  rfl

theorem spread_at (f : FVec Ideal S8x128 .f32) (p l : Fin 128) : spread f (ix2 p l) = f (ix2 ⟨l.val % 8, by omega⟩ p) := by
  unfold spread
  refine (ValueIdx.transpose_ix2_apply _ _ _ _).trans ?_
  refine (concatenate_ofFn_apply (s₁ := S8x128) (0 : Fin S128x128.rank) (fun _ : Fin 16 => f)
    _ rfl 8 rfl (ix2 l p) ⟨l.val / 8, by omega⟩ rfl (ix2 ⟨l.val % 8, by omega⟩ p) rfl ?_)
  intro b hb
  match b with
  | ⟨0, _⟩ => exact absurd rfl hb
  | ⟨1, _⟩ => rfl

end Cert.KernelIdeal.Tile

end
-- ==== Proof.Spec.lean ====
/- What both programs compute, as functions of the elements `A` and the random numbers `W` by row and column. -/
module

public import proofs.«01_k».proof.Proof.Planes

@[expose] public section

noncomputable section

namespace Cert.Sel

open Classical

variable (A : ℕ → ℕ → ℝ) (W : ℕ → ℕ → ℕ)

/-- The elements are zero or of magnitudes in range; the random numbers have 24 bits. -/
structure Good : Prop where
  range : ∀ r c, A r c = 0 ∨ least ≤ |A r c| ∧ |A r c| ≤ most
  bits : ∀ r g, W r g < 2 ^ 24

/-- A group's random number. -/
def gu (r g : ℕ) : ℝ := (W r g : ℝ) * (1 / 2 ^ 24)
/-- A group's larger value. -/
def gbig (r g : ℕ) : ℝ := big (A r (4 * g)) (A r (4 * g + 1)) (A r (4 * g + 2)) (A r (4 * g + 3))
/-- A group's first choice. -/
def glo (r g : ℕ) : ℕ := lo (A r (4 * g)) (A r (4 * g + 1)) (A r (4 * g + 2)) (A r (4 * g + 3)) (gu W r g)
/-- A group's second choice. -/
def ghi (r g : ℕ) : ℕ := hi (A r (4 * g)) (A r (4 * g + 1)) (A r (4 * g + 2)) (A r (4 * g + 3)) (gu W r g)
/-- The value of a group's choice `p`. -/
def gval (r g p : ℕ) : ℝ := value (A r (4 * g)) (A r (4 * g + 1)) (A r (4 * g + 2)) (A r (4 * g + 3)) p
/-- The largest value of a block of sixteen groups. -/
def bmax (r b : ℕ) : EReal := Finset.univ.fold max ⊥ fun k : Fin 16 => ((gbig A r (16 * b + k.val) : ℝ) : EReal)
/-- The same, over the largest code, as a real number. -/
def bnorm (r b : ℕ) : ℝ := (bmax A r b).toReal * inv
/-- The code of group `g`'s choice `p`. -/
def gcode (r g p : ℕ) : ℝ := clip (gval A r g p * fac (bnorm A r (g / 16)))
/-- The codes' entry. -/
def outC (r c : ℕ) : ℝ := if c % 2 = 1 then gcode A r (c / 2) (ghi A W r (c / 2)) else gcode A r (c / 2) (glo A W r (c / 2))
/-- The scales' entry. -/
def outS (r b : ℕ) : BitVec 8 := BitVec.ofNat 8 (code (bnorm A r b))
/-- A group's two choices in four bits. -/
def gfield (r g : ℕ) : ℕ := glo A W r g + 4 * ghi A W r g
/-- The bytes' entry. -/
def outM (r c : ℕ) : BitVec 8 := BitVec.ofNat 8 (gfield A W r (2 * c) + 16 * gfield A W r (2 * c + 1))

variable {A W} (h : Good A W)
include h

theorem gu_range (r g : ℕ) : 0 ≤ gu W r g ∧ gu W r g < 1 := by
  have := h.bits r g
  have h' : (W r g : ℝ) < 2 ^ 24 := by exact_mod_cast this
  unfold gu
  refine ⟨by positivity, ?_⟩
  rw [mul_one_div, div_lt_one (by positivity)]; exact h'

theorem lo_lt (r g : ℕ) : glo A W r g ≤ 2 := by
  unfold glo
  rw [← (choices _ _ _ _ _ (gu_range h r g).1 (gu_range h r g).2).1]
  unfold kLo; split_ifs <;> omega
theorem hi_lt (r g : ℕ) : ghi A W r g ≤ 3 := by
  unfold ghi
  rw [← (choices _ _ _ _ _ (gu_range h r g).1 (gu_range h r g).2).2]
  unfold kHi; split_ifs <;> omega

/-- The block's largest value is one of its groups'. -/
theorem bmax_real (r b : ℕ) : ∃ M : ℝ, bmax A r b = (M : EReal) ∧ (M = 0 ∨ least ≤ M) ∧ M ≤ 2 * most := by
  obtain ⟨k, -, hk⟩ := Finset.exists_mem_eq_sup (Finset.univ : Finset (Fin 16)) ⟨0, Finset.mem_univ _⟩
    (fun k : Fin 16 => ((gbig A r (16 * b + k.val) : ℝ) : EReal))
  have hr := big_range (A r (4 * (16 * b + k.val))) (A r (4 * (16 * b + k.val) + 1)) (A r (4 * (16 * b + k.val) + 2)) (A r (4 * (16 * b + k.val) + 3))
    least most (by unfold most; positivity) (h.range _ _) (h.range _ _) (h.range _ _) (h.range _ _)
  exact ⟨gbig A r (16 * b + k.val), hk, hr.1, hr.2⟩

theorem bmax_coe (r b : ℕ) : bmax A r b = (((bmax A r b).toReal : ℝ) : EReal) := by
  obtain ⟨M, hM, -⟩ := bmax_real h r b
  rw [hM]; rfl

theorem bnorm_range (r b : ℕ) : InRange (bnorm A r b) := by
  obtain ⟨M, hM, h1, h2⟩ := bmax_real h r b
  unfold bnorm
  rw [hM]
  exact inRange M h1 h2

theorem pick_range (r g p : ℕ) : pick (A r (4 * g)) (A r (4 * g + 1)) (A r (4 * g + 2)) (A r (4 * g + 3)) p = 0 ∨
    least ≤ |pick (A r (4 * g)) (A r (4 * g + 1)) (A r (4 * g + 2)) (A r (4 * g + 3)) p| := by
  have hh : ∀ r c, A r c = 0 ∨ least ≤ |A r c| := fun r c => (h.range r c).imp_right And.left
  unfold pick
  split_ifs <;> exact hh _ _

end Cert.Sel

namespace Cert.KernelIdeal.Tile

open Idealize.ShloMosaic Idealize.ShloMosaic.TcCoe
open Cert.KernelIdeal Cert.KernelIdeal.Gen
open Sel

variable (G : Fin 4 → Vec Ideal S32x512 .bf16) (P : Vec Ideal S512x512 .bf16) (R : Fin 4 → Vec Ideal S32x128 .i32) (i0 : IVec S1x128 32)
  (A : ℕ → ℕ → ℝ) (W : ℕ → ℕ → ℕ) (t : ℕ)

/-- What the loads of tile `t` hold. -/
structure Loads : Prop where
  good : Good A W
  sel : ∀ a b : Fin 512, P (ix2 a b) = if b.val = 128 * (a.val % 4) + lane (a.val / 4) then 1 else 0
  elems : ∀ (n : Fin 4) (r : Fin 32) (c : Fin 512), G n (ix2 r c) = ((A r.val (2048 * t + 512 * n.val + c.val) : ℝ) : EReal)
  rand : ∀ (n : Fin 4) (r : Fin 32) (q : Fin 128), (R n (ix2 r q)).toNat / 256 = W r.val (512 * t + 128 * n.val + q.val)
  lanes : ∀ l : Fin 128, i0 (ix2 0 l) = BitVec.ofNat 32 (grp l.val)

variable {G P R i0 A W t} (H : Loads G P R i0 A W t) (p l : Fin 128)

/-- The group that stands at row `p` and lane `l` of tile `t`. -/
def at' (t p l : ℕ) : ℕ := 512 * t + 128 * (p / 32) + grp l

theorem at_div (t p l : ℕ) (hl : l < 128) : at' t p l / 16 = 32 * t + 8 * (p / 32) + l % 8 := by unfold at' grp; omega

include H

theorem elem_at (k : Fin 4) : elem G p l k = ((A (p.val % 32) (4 * at' t p.val l.val + k.val) : ℝ) : EReal) := by
  unfold elem
  rw [H.elems]
  congr 2
  show 2048 * t + 512 * (p.val / 32) + (4 * grp l.val + k.val) = _
  unfold at'
  omega

theorem rnd_at' : rnd R i0 (ix2 p l) = (((W (p.val % 32) (at' t p.val l.val) : ℕ) : ℝ) : EReal) := by
  rw [rnd_at R i0 H.lanes p l]
  unfold rword
  rw [H.rand]; rfl

theorem big_at' : big (p0 G P) (p1 G P) (p2 G P) (p3 G P) (ix2 p l) = ((gbig A (p.val % 32) (at' t p.val l.val) : ℝ) : EReal) :=
  big_at _ _ _ _ _ _ _ _ _ ((p0_at G P H.sel p l).trans (elem_at H p l 0)) ((p1_at G P H.sel p l).trans (elem_at H p l 1))
    ((p2_at G P H.sel p l).trans (elem_at H p l 2)) ((p3_at G P H.sel p l).trans (elem_at H p l 3))

theorem scale_at : scale G P (ix2 p l) = ((fac (bnorm A (p.val % 32) (at' t p.val l.val / 16)) : ℝ) : EReal) := by
  unfold scale
  rw [spread_at]
  refine scale8_at _ _ _ ?_ (bnorm_range H.good _ _)
  show amax _ _ * Ideal.ofBits .f32 0x37924925#32 = _
  rw [amax_at, c_inv]
  unfold bnorm
  rw [EReal.coe_mul, ← bmax_coe H.good]
  congr 1
  unfold bmax
  congr 1
  funext k
  rw [big_at' H]
  congr 2
  rw [at_div _ _ _ l.isLt]
  show at' t p.val (8 * k.val + l.val % 8) = _
  unfold at' grp
  omega

theorem qLo_at : qLo G P R i0 (ix2 p l)
    = ((gcode A (p.val % 32) (at' t p.val l.val) (glo A W (p.val % 32) (at' t p.val l.val)) : ℝ) : EReal) := by
  have e0 := (p0_at G P H.sel p l).trans (elem_at H p l 0)
  have e1 := (p1_at G P H.sel p l).trans (elem_at H p l 1)
  have e2 := (p2_at G P H.sel p l).trans (elem_at H p l 2)
  have e3 := (p3_at G P H.sel p l).trans (elem_at H p l 3)
  have eU := rnd_at' H p l
  have hu := gu_range H.good (p.val % 32) (at' t p.val l.val)
  unfold qLo
  refine (quant_at _ _ _ _ _ _ _ (xLo_at _ _ _ _ _ _ _ _ _ _ _ _ e0 e1 e2 e3 eU rfl) (magLo_at _ _ _ _ _ _ _ _ _ _ _ _ e0 e1 e2 e3 eU rfl)
    (scale_at H p l) (pick_range H.good _ _ _)).trans ?_
  unfold gcode
  congr 3
  exact value_lo _ _ _ _ _ hu.1 hu.2

theorem qHi_at : qHi G P R i0 (ix2 p l)
    = ((gcode A (p.val % 32) (at' t p.val l.val) (ghi A W (p.val % 32) (at' t p.val l.val)) : ℝ) : EReal) := by
  have e0 := (p0_at G P H.sel p l).trans (elem_at H p l 0)
  have e1 := (p1_at G P H.sel p l).trans (elem_at H p l 1)
  have e2 := (p2_at G P H.sel p l).trans (elem_at H p l 2)
  have e3 := (p3_at G P H.sel p l).trans (elem_at H p l 3)
  have eU := rnd_at' H p l
  have hu := gu_range H.good (p.val % 32) (at' t p.val l.val)
  unfold qHi
  refine (quant_at _ _ _ _ _ _ _ (xHi_at _ _ _ _ _ _ _ _ _ _ _ _ e0 e1 e2 e3 eU rfl) (magHi_at _ _ _ _ _ _ _ _ _ _ _ _ e0 e1 e2 e3 eU rfl)
    (scale_at H p l) (pick_range H.good _ _ _)).trans ?_
  unfold gcode
  congr 3
  exact value_hi _ _ _ _ _ hu.1 hu.2

theorem field_at' : field (p0 G P) (p1 G P) (p2 G P) (p3 G P) (rnd R i0) (ix2 p l) = BitVec.ofNat 32 (gfield A W (p.val % 32) (at' t p.val l.val)) := by
  have e0 := (p0_at G P H.sel p l).trans (elem_at H p l 0)
  have e1 := (p1_at G P H.sel p l).trans (elem_at H p l 1)
  have e2 := (p2_at G P H.sel p l).trans (elem_at H p l 2)
  have e3 := (p3_at G P H.sel p l).trans (elem_at H p l 3)
  have eU := rnd_at' H p l
  have hu := gu_range H.good (p.val % 32) (at' t p.val l.val)
  have hc := choices (A (p.val % 32) (4 * at' t p.val l.val)) (A (p.val % 32) (4 * at' t p.val l.val + 1)) (A (p.val % 32) (4 * at' t p.val l.val + 2))
    (A (p.val % 32) (4 * at' t p.val l.val + 3)) _ hu.1 hu.2
  refine (field_at _ _ _ _ _ _ _ _ _ _ _ _ e0 e1 e2 e3 eU rfl).trans ?_
  unfold gfield glo ghi
  rw [← hc.1, ← hc.2]
  rfl

end Cert.KernelIdeal.Tile

end
-- ==== Proof.Pieces.lean ====
/- The pieces a tile stores, read at one position. -/
module

public import proofs.«01_k».proof.Proof.Spec
public import Idealize.ShloMosaic.Lib.BitcastFour
public import Idealize.ShloMosaic.Lib.KernelVsHost

@[expose] public section

noncomputable section

namespace Cert.KernelIdeal.Tile

open Idealize.ShloMosaic Idealize.ShloMosaic.TcCoe
open Cert.KernelIdeal Cert.KernelIdeal.Gen
open Sel

/-- The parity bit of a lane. -/
theorem odd_word : ∀ j : Fin 128, IntOp.cmpi .eq (IntOp.andi (BitVec.ofNat 32 j.val) 1#32) 1#32 = BitVec.ofBool (decide (j.val % 2 = 1)) := by decide
/-- The bit of the first half of the lanes. -/
theorem lt_word : ∀ l : Fin 128, IntOp.cmpi .slt (BitVec.ofNat 32 l.val) 64#32 = BitVec.ofBool (decide (l.val < 64)) := by decide
/-- Two neighbouring groups stand eight lanes apart. -/
theorem lane_next (j : ℕ) (hj : j < 64) : lane (2 * j + 1) = (lane (2 * j) + 128 - 120 % 128) % 128 := by
  unfold lane
  rw [show (2 * j + 1) / 16 = j / 8 by omega, show 2 * j / 16 = j / 8 by omega, show (2 * j + 1) % 16 = 2 * (j % 8) + 1 by omega,
    show 2 * j % 16 = 2 * (j % 8) by omega]
  omega

section Codes
variable {G : Fin 4 → Vec Ideal S32x512 .bf16} {P : Vec Ideal S512x512 .bf16} {R : Fin 4 → Vec Ideal S32x128 .i32} {i0 : IVec S1x128 32}
  {A : ℕ → ℕ → ℝ} {W : ℕ → ℕ → ℕ} {t : ℕ} (H : Loads G P R i0 A W t)
include H

theorem slice32_at {α : Type} (x : S128x128.Idx → α) (n : Fin 4) (r : Fin 32) (l : Fin 128) :
    extractStridedSlice S32x128 ![32 * n.val, 0] x (slices32 n) (ix2 r l) = x (ix2 ⟨32 * n.val + r.val, by omega⟩ l) := by
  refine extractStridedSlice_apply ![32 * n.val, 0] x (slices32 n) (ix2 r l) _ ?_
  intro b; match b with | ⟨0, _⟩ => rfl | ⟨1, _⟩ => exact (Nat.zero_add _).symm

/-- The codes of chunk `n`, half `h`. -/
theorem codes_at (n : Fin 4) (h : ℕ) (hh : h < 2) (i : IVec S1x128 32) (hi : ∀ l : Fin 128, i (ix2 0 l) = BitVec.ofNat 32 (lane (64 * h + l.val / 2)))
    (r : Fin 32) (j : Fin 128) :
    codes (qLo G P R i0) (qHi G P R i0) i n (ix2 r j) = ((outC A W r.val (128 * (2 * (4 * t + n.val) + h) + j.val) : ℝ) : EReal) := by
  have hl := lane_lt (64 * h + j.val / 2) (by omega)
  have hidx : laneIdx broadcasts_S1x128_S32x128 shapeCasts_S32x128_S32x128x1 shapeCasts_S32x128x1_S32x128 i (ix2 r j) = BitVec.ofNat 32 (lane (64 * h + j.val / 2)) :=
    laneIdx_at _ _ _ i j _ hl (hi j) r
  have hg : ∀ q : FVec Ideal S128x128 .f32, gather32 (extractStridedSlice S32x128 ![32 * n.val, 0] q (slices32 n)) i (ix2 r j)
      = q (ix2 ⟨32 * n.val + r.val, by omega⟩ ⟨lane (64 * h + j.val / 2), hl⟩) := fun q =>
    (gather_at _ _ r j _ hl hidx).trans (slice32_at H q n r _)
  show Scalar.select (IntOp.cmpi .eq (IntOp.andi (iota .tc S32x128 32 [1] iota_S32x128_d1_w32 (ix2 r j)) 1#32) 1#32) (gather32 _ i (ix2 r j)) (gather32 _ i (ix2 r j)) = _
  rw [hg, hg, qHi_at H, qLo_at H]
  have hiota : iota .tc S32x128 32 [1] iota_S32x128_d1_w32 (ix2 r j) = BitVec.ofNat 32 j.val := by
    show BitVec.ofNat 32 (0 * 128 + j.val) = _
    rw [Nat.zero_mul, Nat.zero_add]
  have hodd : IntOp.cmpi .eq (IntOp.andi (BitVec.ofNat 32 j.val) 1#32) 1#32 = BitVec.ofBool (decide (j.val % 2 = 1)) := odd_word j
  rw [hiota, hodd, select_ofBool]
  show (if j.val % 2 = 1 then _ else _) = _
  have hat : at' t (32 * n.val + r.val) (lane (64 * h + j.val / 2)) = (128 * (2 * (4 * t + n.val) + h) + j.val) / 2 := by
    unfold at'
    rw [grp_lane _ (by omega)]
    omega
  have hr : (32 * n.val + r.val) % 32 = r.val := by omega
  simp only [hat, hr]
  unfold outC
  have hpar : (128 * (2 * (4 * t + n.val) + h) + j.val) % 2 = j.val % 2 := by omega
  rw [hpar]
  split_ifs <;> rfl

/-- A bit of the word of four rows' choices. -/
theorem fq_bit (a : Fin 32) (l : Fin 128) (q : ℕ) (hq : q < 32) :
    (fq G P R i0 (ix2 a l)).getLsbD q
      = (gfield A W ((4 * a.val + q / 8) % 32) (at' t (4 * a.val + q / 8) l.val)).testBit (q % 8) := by
  have hp : 4 * a.val + q / 8 < 128 := by omega
  unfold fq
  refine (bitcast_8_32_getLsbD_ix2 _ bitcasts_S128x128_w8_S32x128_w32 a l q hq ⟨4 * a.val + q / 8, hp⟩ rfl).trans ?_
  show (BitVec.setWidth 8 (field _ _ _ _ _ (ix2 ⟨4 * a.val + q / 8, hp⟩ l))).getLsbD (q % 8) = _
  rw [field_at' H, BitVec.getLsbD_setWidth, BitVec.getLsbD_ofNat]
  simp only [show q % 8 < 8 by omega, show q % 8 < 32 by omega, decide_true, Bool.true_and]

/-- A bit of a word of two neighbouring groups' choices. -/
theorem pairs_bit (n : Fin 4) (a : Fin 8) (j : ℕ) (hj : j < 64) (l : Fin 128) (hl : l.val = lane (2 * j)) (q : ℕ) (hq : q < 32) :
    (pairs (fq G P R i0) n (ix2 a l)).getLsbD q
      = (gfield A W (4 * a.val + q / 8) (512 * t + 128 * n.val + 2 * j)
          + 16 * gfield A W (4 * a.val + q / 8) (512 * t + 128 * n.val + (2 * j + 1))).testBit (q % 8) := by
  have hlt := lane_lt (2 * j + 1) (by omega)
  have hsl : ∀ l' : Fin 128, extractStridedSlice S8x128 ![8 * n.val, 0] (fq G P R i0) (slices8 n) (ix2 a l')
      = fq G P R i0 (ix2 ⟨8 * n.val + a.val, by omega⟩ l') := by
    intro l'
    refine extractStridedSlice_apply (s := S32x128) (t := S8x128) ![8 * n.val, 0] _ (slices8 n) (ix2 a l') _ ?_
    intro b; match b with | ⟨0, _⟩ => rfl | ⟨1, _⟩ => exact (Nat.zero_add _).symm
  have hrot : dynamicRotate 1 120#32 none (extractStridedSlice S8x128 ![8 * n.val, 0] (fq G P R i0) (slices8 n)) rotates_S8x128_d1 (ix2 a l)
      = fq G P R i0 (ix2 ⟨8 * n.val + a.val, by omega⟩ ⟨lane (2 * j + 1), hlt⟩) := by
    refine (dynamicRotate_apply 1 120#32 _ rotates_S8x128_d1 (ix2 a l) (ix2 a ⟨lane (2 * j + 1), hlt⟩) ?_).trans (hsl _)
    intro b
    match b with
    | ⟨0, _⟩ => rfl
    | ⟨1, _⟩ =>
      show lane (2 * j + 1) = (l.val + 128 - 120 % 128) % 128
      rw [hl]; exact lane_next j hj
  show (IntOp.ori (extractStridedSlice _ _ _ _ (ix2 a l)) (IntOp.shli .vector (dynamicRotate _ _ _ _ _ (ix2 a l)) 4#32)).getLsbD q = _
  rw [hsl, hrot]
  have hsh : ∀ w : BitVec 32, IntOp.shli .vector w 4#32 = w <<< 4 := by
    intro w; unfold IntOp.shli; rw [if_pos (by decide)]; rfl
  rw [hsh]
  unfold IntOp.ori
  rw [BitVec.getLsbD_or, BitVec.getLsbD_shiftLeft, fq_bit H _ _ q hq]
  have hr : (4 * (8 * n.val + a.val) + q / 8) % 32 = 4 * a.val + q / 8 := by omega
  have hat : at' t (4 * (8 * n.val + a.val) + q / 8) l.val = 512 * t + 128 * n.val + 2 * j := by
    unfold at'
    rw [hl, grp_lane _ (by omega)]; omega
  have hf : gfield A W (4 * a.val + q / 8) (512 * t + 128 * n.val + 2 * j) < 16 := by
    unfold gfield
    have := lo_lt H.good (4 * a.val + q / 8) (512 * t + 128 * n.val + 2 * j)
    have := hi_lt H.good (4 * a.val + q / 8) (512 * t + 128 * n.val + 2 * j)
    omega
  simp only [hr, hat]
  rw [show gfield A W (4 * a.val + q / 8) (512 * t + 128 * n.val + 2 * j)
          + 16 * gfield A W (4 * a.val + q / 8) (512 * t + 128 * n.val + (2 * j + 1))
        = 2 ^ 4 * gfield A W (4 * a.val + q / 8) (512 * t + 128 * n.val + (2 * j + 1)) + gfield A W (4 * a.val + q / 8) (512 * t + 128 * n.val + 2 * j) by ring,
    Nat.testBit_two_pow_mul_add _ hf]
  by_cases h4 : q % 8 < 4
  · rw [if_pos h4]
    by_cases hq4 : q < 4
    · simp [hq4]
    · have hz : (fq G P R i0 (ix2 ⟨8 * n.val + a.val, by omega⟩ ⟨lane (2 * j + 1), hlt⟩)).getLsbD (q - 4) = false := by
        rw [fq_bit H _ _ _ (by omega)]
        have hf' : gfield A W ((4 * (8 * n.val + a.val) + (q - 4) / 8) % 32) (at' t (4 * (8 * n.val + a.val) + (q - 4) / 8) (lane (2 * j + 1))) < 16 := by
          unfold gfield
          have := lo_lt H.good ((4 * (8 * n.val + a.val) + (q - 4) / 8) % 32) (at' t (4 * (8 * n.val + a.val) + (q - 4) / 8) (lane (2 * j + 1)))
          have := hi_lt H.good ((4 * (8 * n.val + a.val) + (q - 4) / 8) % 32) (at' t (4 * (8 * n.val + a.val) + (q - 4) / 8) (lane (2 * j + 1)))
          omega
        refine Nat.testBit_lt_two_pow (lt_of_lt_of_le hf' ?_)
        calc 16 = 2 ^ 4 := rfl
          _ ≤ _ := Nat.pow_le_pow_right (by omega) (by omega)
      rw [hz, Bool.and_false, Bool.or_false]
  · rw [if_neg h4, fq_bit H _ _ _ (by omega)]
    have hz : (gfield A W (4 * a.val + q / 8) (512 * t + 128 * n.val + 2 * j)).testBit (q % 8) = false := by
      refine Nat.testBit_lt_two_pow (lt_of_lt_of_le hf ?_)
      calc 16 = 2 ^ 4 := rfl
        _ ≤ _ := Nat.pow_le_pow_right (by omega) (by omega)
    rw [hz]
    have e1 : (q - 4) / 8 = q / 8 := by omega
    have e2 : (q - 4) % 8 = q % 8 - 4 := by omega
    have hat' : at' t (4 * (8 * n.val + a.val) + q / 8) (lane (2 * j + 1)) = 512 * t + 128 * n.val + (2 * j + 1) := by
      unfold at'
      rw [grp_lane _ (by omega)]; omega
    simp only [e1, e2, hr, hat']
    simp [hq, show ¬ q < 4 by omega]

/-- The bytes of two chunks. -/
theorem metas_at (m : ℕ) (hm : m < 2) (n n' : Fin 4) (hn : n.val = 2 * m) (hn' : n'.val = 2 * m + 1) (i3 i4 : IVec S1x128 32)
    (h3 : ∀ l : Fin 128, i3 (ix2 0 l) = BitVec.ofNat 32 (lane (2 * (l.val % 64)))) (h4 : ∀ l : Fin 128, i4 (ix2 0 l) = BitVec.ofNat 32 (lane (2 * (l.val % 64))))
    (r : Fin 32) (l : Fin 128) :
    metas (fq G P R i0) i3 i4 n n' (ix2 r l) = outM A W r.val (128 * (2 * t + m) + l.val) := by
  have hl := lane_lt (2 * (l.val % 64)) (by omega)
  have ha : r.val / 4 < 8 := by omega
  have hg : ∀ (i : IVec S1x128 32) (hi : ∀ l : Fin 128, i (ix2 0 l) = BitVec.ofNat 32 (lane (2 * (l.val % 64)))) (x : IVec S8x128 32),
      gather8 x i (ix2 ⟨r.val / 4, ha⟩ l) = x (ix2 ⟨r.val / 4, ha⟩ ⟨lane (2 * (l.val % 64)), hl⟩) := fun i hi x =>
    gather_at x _ _ l _ hl (laneIdx_at _ _ _ i l _ hl (hi l) _)
  apply BitVec.eq_of_getLsbD_eq
  intro q hq
  unfold metas
  rw [bitcast_getLsbD _ _ _ q hq (by decide)]
  have hrow : (S32x128.row (ix2 r l)) = r.val := rfl
  have hdiv : (S32x128.row (ix2 r l) * 8 + q) / 32 = r.val / 4 := by rw [hrow]; omega
  have hmod : (S32x128.row (ix2 r l) * 8 + q) % 32 = 8 * (r.val % 4) + q := by rw [hrow]; omega
  have hsrc : ∀ hp, (bitcasts_S8x128_w32_S32x128_w8).srcIdx (ix2 r l) ((S32x128.row (ix2 r l) * 8 + q) / 32) hp = ix2 ⟨r.val / 4, ha⟩ l := by
    intro hp
    funext b
    match b with
    | ⟨0, _⟩ => apply Fin.ext; exact hdiv
    | ⟨1, _⟩ => rfl
  rw [hsrc, hmod]
  have hiota : (extractStridedSlice S8x128 ![0, 0] (iota .tc S32x128 32 [1] iota_S32x128_d1_w32) slices_S32x128_o0_0_S8x128) (ix2 ⟨r.val / 4, ha⟩ l) = BitVec.ofNat 32 l.val := by
    show BitVec.ofNat 32 (0 * 128 + (0 + l.val)) = _
    rw [Nat.zero_mul, Nat.zero_add, Nat.zero_add]
  have hlt : IntOp.cmpi .slt (BitVec.ofNat 32 l.val) 64#32 = BitVec.ofBool (decide (l.val < 64)) := lt_word l
  show (Scalar.select (IntOp.cmpi .slt (extractStridedSlice _ _ _ _ (ix2 ⟨r.val / 4, ha⟩ l)) 64#32) (gather8 _ i3 (ix2 ⟨r.val / 4, ha⟩ l)) (gather8 _ i4 (ix2 ⟨r.val / 4, ha⟩ l))).getLsbD _ = _
  rw [hiota, hlt, select_ofBool, hg i3 h3, hg i4 h4]
  have e1 : 4 * (r.val / 4) + (8 * (r.val % 4) + q) / 8 = r.val := by omega
  have e2 : (8 * (r.val % 4) + q) % 8 = q := by omega
  unfold outM
  rw [BitVec.getLsbD_ofNat]
  simp only [hq, decide_true, Bool.true_and]
  split_ifs with h64
  · rw [pairs_bit H n ⟨r.val / 4, ha⟩ (l.val % 64) (by omega) _ rfl _ (by omega)]
    simp only [e1, e2]
    rw [show 512 * t + 128 * n.val + 2 * (l.val % 64) = 2 * (128 * (2 * t + m) + l.val) by omega,
      show 512 * t + 128 * n.val + (2 * (l.val % 64) + 1) = 2 * (128 * (2 * t + m) + l.val) + 1 by omega]
  · rw [pairs_bit H n' ⟨r.val / 4, ha⟩ (l.val % 64) (by omega) _ rfl _ (by omega)]
    simp only [e1, e2]
    rw [show 512 * t + 128 * n'.val + 2 * (l.val % 64) = 2 * (128 * (2 * t + m) + l.val) by omega,
      show 512 * t + 128 * n'.val + (2 * (l.val % 64) + 1) = 2 * (128 * (2 * t + m) + l.val) + 1 by omega]

end Codes

end Cert.KernelIdeal.Tile

end
-- ==== Proof.Block.lean ====
/- The blocks one grid point leaves, read at one position. -/
module

public import proofs.«01_k».proof.Proof.Pieces
public import Idealize.ShloMosaic.Lib.WholeRead
public import Idealize.ShloMosaic.Lib.Pipeline.ValueKit.Tiles

@[expose] public section

noncomputable section

namespace Cert.KernelIdeal.Tile

open Idealize.ShloMosaic Idealize.ShloMosaic.TcCoe
open Cert.KernelIdeal Cert.KernelIdeal.Gen
open Sel

theorem mem_downFrom {N : ℕ} {α : Type} (f : Fin N → α) : ∀ (n : ℕ) (h : n ≤ N) (x : α), x ∈ downFrom f n h ↔ ∃ k : Fin N, k.val < n ∧ f k = x
  | 0, _, x => by simp [downFrom]
  | n + 1, h, x => by
    rw [downFrom, List.mem_cons, mem_downFrom f n]
    constructor
    · rintro (rfl | ⟨k, hk, rfl⟩)
      · exact ⟨⟨n, h⟩, Nat.lt_succ_self n, rfl⟩
      · exact ⟨k, Nat.lt_succ_of_lt hk, rfl⟩
    · rintro ⟨k, hk, rfl⟩
      rcases Nat.lt_succ_iff_lt_or_eq.mp hk with h' | h'
      · exact Or.inr ⟨k, h', rfl⟩
      · exact Or.inl (by congr 1; exact Fin.ext h')

/-- Pieces in a row, read back where one of them lies. -/
theorem canon_downFrom {s : Shape} {e : EltTy} {N : ℕ} (f : Fin N → View.Piece (Elt Ideal) s e) (y : s.Idx) (v : Elt Ideal e)
    (hc : ∃ k, y ∈ (f k).1.set) (h : ∀ (k : Fin N) (x : (f k).1.shape.Idx), (f k).1.emb x = y → (f k).2 x = v) :
    View.canon (downFrom f N le_rfl) y = v := by
  refine View.canon_eq_of_allAt _ y v ?_ ?_
  · obtain ⟨k, hk⟩ := hc
    exact ⟨f k, (mem_downFrom f N le_rfl _).mpr ⟨k, k.isLt, rfl⟩, hk⟩
  · intro p hp
    obtain ⟨k, -, rfl⟩ := (mem_downFrom f N le_rfl _).mp hp
    exact h k

section
variable {arg1 : Memref sig .tc .vmem S32x18432 .bf16} {harg1 : arg1.IsWhole} {arg2 : Memref sig .tc .vmem S32x4608 .i32} {harg2 : arg2.IsWhole}
  {arg3 : Memref sig .tc .vmem S512x512 .bf16} {harg3 : arg3.IsWhole} {arg4 : Memref sig .tc .vmem S8x128 .i32} {harg4 : arg4.IsWhole}
  {x0 : Vec Ideal S32x18432 .bf16} {x1 : Vec Ideal S32x4608 .i32} {x2 : Vec Ideal S512x512 .bf16} {x3 : Vec Ideal S8x128 .i32}
  {A : ℕ → ℕ → ℝ} {W : ℕ → ℕ → ℕ}

theorem ldG_at (t : Fin 9) (n : Fin 4) (r : Fin 32) (c : Fin 512) :
    ldG arg1 harg1 x0 t n (ix2 r c) = x0 (ix2 r ⟨2048 * t.val + 512 * n.val + c.val, by omega⟩) := by
  unfold ldG
  rw [harg1.readAt_unread]
  congr 1
  funext a; apply Fin.ext
  match a with
  | ⟨0, _⟩ => show 0 + 1 * r.val = r.val; omega
  | ⟨1, _⟩ => show 2048 * t.val + 512 * n.val + 1 * c.val = 2048 * t.val + 512 * n.val + c.val; omega

theorem ldR_at (t : Fin 9) (n : Fin 4) (r : Fin 32) (c : Fin 128) :
    ldR arg2 harg2 x1 t n (ix2 r c) = x1 (ix2 r ⟨512 * t.val + 128 * n.val + c.val, by omega⟩) := by
  unfold ldR
  rw [harg2.readAt_unread]
  congr 1
  funext a; apply Fin.ext
  match a with
  | ⟨0, _⟩ => show 0 + 1 * r.val = r.val; omega
  | ⟨1, _⟩ => show 512 * t.val + 128 * n.val + 1 * c.val = 512 * t.val + 128 * n.val + c.val; omega

theorem ldP_at (a b : Fin 512) : ldP arg3 harg3 x2 (ix2 a b) = x2 (ix2 a b) := by
  unfold ldP
  rw [harg3.readAt_unread]
  congr 1
  funext d; apply Fin.ext
  match d with
  | ⟨0, _⟩ => show 0 + 1 * a.val = a.val; omega
  | ⟨1, _⟩ => show 0 + 1 * b.val = b.val; omega

theorem ldI_at (k : Fin 5) (l : Fin 128) : ldI arg4 harg4 x3 k (ix2 0 l) = x3 (ix2 ⟨k.val, by omega⟩ l) := by
  unfold ldI
  rw [harg4.readAt_unread]
  congr 1
  funext d; apply Fin.ext
  match d with
  | ⟨0, _⟩ => show k.val + 1 * 0 = k.val; omega
  | ⟨1, _⟩ => show 0 + 1 * l.val = l.val; omega

variable (x0 x1 x2 x3 A W) in
/-- What a grid point's four input blocks hold. -/
structure Blocks : Prop where
  good : Good A W
  elems : ∀ (r : Fin 32) (c : Fin 18432), x0 (ix2 r c) = ((A r.val c.val : ℝ) : EReal)
  rand : ∀ (r : Fin 32) (g : Fin 4608), (x1 (ix2 r g)).toNat / 256 = W r.val g.val
  sel : ∀ a b : Fin 512, x2 (ix2 a b) = if b.val = 128 * (a.val % 4) + lane (a.val / 4) then 1 else 0
  lanes : Lanes fun k => fun j : S1x128.Idx => x3 (ix2 ⟨k.val, by omega⟩ (j 1))

variable (B : Blocks x0 x1 x2 x3 A W)
include B

theorem ldI0 (l : Fin 128) : ldI arg4 harg4 x3 0 (ix2 0 l) = BitVec.ofNat 32 (grp l.val) := (ldI_at 0 l).trans (B.lanes.rand l)
theorem ldI3 (l : Fin 128) : ldI arg4 harg4 x3 3 (ix2 0 l) = BitVec.ofNat 32 (lane (2 * (l.val % 64))) := (ldI_at 3 l).trans (B.lanes.meta0 l)
theorem ldI4 (l : Fin 128) : ldI arg4 harg4 x3 4 (ix2 0 l) = BitVec.ofNat 32 (lane (2 * (l.val % 64))) := (ldI_at 4 l).trans (B.lanes.meta1 l)
theorem ldI12 (h : ℕ) (hh : h < 2) (l : Fin 128) : ldI arg4 harg4 x3 ⟨1 + h, by omega⟩ (ix2 0 l) = BitVec.ofNat 32 (lane (64 * h + l.val / 2)) := by
  interval_cases h
  · exact (ldI_at 1 l).trans ((B.lanes.codes0 l).trans (by rw [Nat.mul_zero, Nat.zero_add]))
  · exact (ldI_at 2 l).trans (B.lanes.codes1 l)

theorem loads (t : Fin 9) : Loads (ldG arg1 harg1 x0 t) (ldP arg3 harg3 x2) (ldR arg2 harg2 x1 t) (ldI arg4 harg4 x3 0) A W t.val where
  good := B.good
  sel a b := (ldP_at a b).trans (B.sel a b)
  elems n r c := (ldG_at t n r c).trans (B.elems r _)
  rand n r q := by rw [ldR_at]; exact B.rand r _
  lanes := ldI0 B

/-- The codes' pieces read back. -/
theorem codes_canon (r : Fin 32) (c : Fin 9216) :
    View.canon (downFrom (codePiece arg1 harg1 arg2 harg2 arg3 harg3 arg4 harg4 x0 x1 x2 x3) 72 le_rfl) (ix2 r c) = ((outC A W r.val c.val : ℝ) : EReal) := by
  refine canon_downFrom _ _ _ ⟨⟨c.val / 128, by omega⟩, ?_⟩ ?_
  · show _ ∈ (Rect.unit (s := S32x9216) ![0, 128 * (c.val / 128)] S32x128.size (inbC ⟨c.val / 128, by omega⟩)).set
    rw [Rect.mem_set_unit]
    intro a
    match a with
    | ⟨0, _⟩ => exact ⟨Nat.zero_le _, by show r.val < 0 + 32; omega⟩
    | ⟨1, _⟩ => show 128 * (c.val / 128) ≤ c.val ∧ c.val < 128 * (c.val / 128) + 128; omega
  · intro k (x : S32x128.Idx) hx
    obtain ⟨r', j, rfl⟩ : ∃ (r' : Fin 32) (j : Fin 128), x = ix2 r' j := ⟨x 0, x 1, eq_ix2 x⟩
    have h0 : 0 + 1 * r'.val = r.val := congrArg Fin.val (congrFun hx 0)
    have h1 : 128 * k.val + 1 * j.val = c.val := congrArg Fin.val (congrFun hx 1)
    refine (codes_at (loads B ⟨k.val / 8, by omega⟩) ⟨k.val / 2 % 4, by omega⟩ (k.val % 2) (by omega) _ (ldI12 B _ (by omega)) r' j).trans ?_
    congr 2
    · omega
    · show 128 * (2 * (4 * (k.val / 8) + k.val / 2 % 4) + k.val % 2) + j.val = c.val
      omega

/-- The bytes' pieces read back. -/
theorem metas_canon (r : Fin 32) (c : Fin 2304) :
    View.canon (downFrom (metaPiece arg1 harg1 arg2 harg2 arg3 harg3 arg4 harg4 x0 x1 x2 x3) 18 le_rfl) (ix2 r c) = outM A W r.val c.val := by
  refine canon_downFrom _ _ _ ⟨⟨c.val / 128, by omega⟩, ?_⟩ ?_
  · show _ ∈ (Rect.unit (s := S32x2304) ![0, 128 * (c.val / 128)] S32x128.size (inbM ⟨c.val / 128, by omega⟩)).set
    rw [Rect.mem_set_unit]
    intro a
    match a with
    | ⟨0, _⟩ => exact ⟨Nat.zero_le _, by show r.val < 0 + 32; omega⟩
    | ⟨1, _⟩ => show 128 * (c.val / 128) ≤ c.val ∧ c.val < 128 * (c.val / 128) + 128; omega
  · intro k (x : S32x128.Idx) hx
    obtain ⟨r', j, rfl⟩ : ∃ (r' : Fin 32) (j : Fin 128), x = ix2 r' j := ⟨x 0, x 1, eq_ix2 x⟩
    have h0 : 0 + 1 * r'.val = r.val := congrArg Fin.val (congrFun hx 0)
    have h1 : 128 * k.val + 1 * j.val = c.val := congrArg Fin.val (congrFun hx 1)
    refine (metas_at (loads B ⟨k.val / 2, by omega⟩) (k.val % 2) (by omega) _ _ rfl rfl _ _ (ldI3 B) (ldI4 B) r' j).trans ?_
    congr 1
    · omega
    · show 128 * (2 * (k.val / 2) + k.val % 2) + j.val = c.val
      omega

/-- The scratch buffer's pieces read back. -/
theorem scale_canon (a2 : Memref sig .tc .vmem S32x4608 .i32) (h2 : a2.IsWhole) (a4 : Memref sig .tc .vmem S8x128 .i32) (h4 : a4.IsWhole)
    (r : Fin 32) (c : Fin 384) (hc : c.val < 288) :
    View.canon (downFrom (scalePiece arg1 harg1 arg3 harg3 x0 x2) 36 le_rfl) (ix2 r c) = ((fac (bnorm A r.val c.val) : ℝ) : EReal) := by
  refine canon_downFrom _ _ _ ⟨⟨c.val / 8, by omega⟩, ?_⟩ ?_
  · show _ ∈ (Rect.unit (s := S32x384) ![0, 8 * (c.val / 8)] S32x8.size (inbF ⟨c.val / 8, by omega⟩)).set
    rw [Rect.mem_set_unit]
    intro a
    match a with
    | ⟨0, _⟩ => exact ⟨Nat.zero_le _, by show r.val < 0 + 32; omega⟩
    | ⟨1, _⟩ => show 8 * (c.val / 8) ≤ c.val ∧ c.val < 8 * (c.val / 8) + 8; omega
  · intro k (x : S32x8.Idx) hx
    obtain ⟨r', j, rfl⟩ : ∃ (r' : Fin 32) (j : Fin 8), x = ix2 r' j := ⟨x 0, x 1, eq_ix2 x⟩
    have h0 : 0 + 1 * r'.val = r.val := congrArg Fin.val (congrFun hx 0)
    have h1 : 8 * k.val + 1 * j.val = c.val := congrArg Fin.val (congrFun hx 1)
    show shapeCast S32x8 (extractStridedSlice S32x8 ![32 * (k.val % 4), 8 * (k.val % 16)] (scale (ldG arg1 harg1 x0 ⟨k.val / 4, by omega⟩) (ldP arg3 harg3 x2)) (slicesF ⟨k.val % 4, by omega⟩ ⟨k.val % 16, by omega⟩)) shapeCasts_S32x8_S32x8 (ix2 r' j) = _
    rw [shapeCast_id]
    refine (extractStridedSlice_apply ![32 * (k.val % 4), 8 * (k.val % 16)] _ _ (ix2 r' j) (ix2 ⟨32 * (k.val % 4) + r'.val, by omega⟩ ⟨8 * (k.val % 16) + j.val, by omega⟩) ?_).trans ?_
    · intro b; match b with | ⟨0, _⟩ => rfl | ⟨1, _⟩ => rfl
    · refine (scale_at (loads (arg1 := arg1) (harg1 := harg1) (arg2 := a2) (harg2 := h2) (arg3 := arg3) (harg3 := harg3) (arg4 := a4) (harg4 := h4) B ⟨k.val / 4, by omega⟩) _ _).trans ?_
      congr 3
      · show (32 * (k.val % 4) + r'.val) % 32 = r.val
        omega
      · show at' (k.val / 4) (32 * (k.val % 4) + r'.val) (8 * (k.val % 16) + j.val) / 16 = c.val
        rw [at_div _ _ _ (by omega)]
        omega

end

section
variable (arg1 : Memref sig .tc .vmem S32x18432 .bf16) (harg1 : arg1.IsWhole) (arg2 : Memref sig .tc .vmem S32x4608 .i32) (harg2 : arg2.IsWhole)
  (arg3 : Memref sig .tc .vmem S512x512 .bf16) (harg3 : arg3.IsWhole) (arg4 : Memref sig .tc .vmem S8x128 .i32) (harg4 : arg4.IsWhole)
  (x0 : Vec Ideal S32x18432 .bf16) (x1 : Vec Ideal S32x4608 .i32) (x2 : Vec Ideal S512x512 .bf16) (x3 : Vec Ideal S8x128 .i32)
  (c : Dev nD) (i : grid0.Coords) (arg5 : Memref sig .tc .vmem S32x9216 .fp8e5m2) (harg5 : arg5.IsWhole)
  (arg6 : Memref sig .tc .vmem S32x288 .i8) (harg6 : arg6.IsWhole) (arg7 : Memref sig .tc .vmem S32x2304 .i8) (harg7 : arg7.IsWhole)
  (arg8 : Memref sig .tc .vmem S32x384 .f32) (harg8 : arg8.IsWhole)
  {A : ℕ → ℕ → ℝ} {W : ℕ → ℕ → ℕ} (B : Blocks x0 x1 x2 x3 A W)
include B

theorem block_codes (r : Fin 32) (j : Fin 9216) :
    out0_A_4 c i arg1 harg1 arg2 harg2 arg3 harg3 arg4 harg4 arg5 harg5 arg6 harg6 arg7 harg7 arg8 harg8 x0 x1 x2 x3 (ix2 r j)
      = ((outC A W r.val j.val : ℝ) : EReal) := by
  unfold out0_A_4
  rw [View.read_writes_junk_apply_eq_canon, run_codes]
  exact codes_canon B r j

theorem block_metas (r : Fin 32) (j : Fin 2304) :
    out0_A_6 c i arg1 harg1 arg2 harg2 arg3 harg3 arg4 harg4 arg5 harg5 arg6 harg6 arg7 harg7 arg8 harg8 x0 x1 x2 x3 (ix2 r j)
      = outM A W r.val j.val := by
  unfold out0_A_6
  rw [View.read_writes_junk_apply_eq_canon, run_metas]
  exact metas_canon B r j

theorem block_scales (r : Fin 32) (j : Fin 288) :
    out0_A_5 c i arg1 harg1 arg2 harg2 arg3 harg3 arg4 harg4 arg5 harg5 arg6 harg6 arg7 harg7 arg8 harg8 x0 x1 x2 x3 (ix2 r j)
      = outS A r.val j.val := by
  unfold out0_A_5
  rw [View.read_writes_junk_apply_eq_canon, run_scales]
  rw [View.canon_unit_zero (by funext a; match a with | ⟨0, _⟩ => rfl | ⟨1, _⟩ => rfl)]
  refine scales_at _ _ (bnorm A r.val j.val) ?_ (bnorm_range B.good _ _)
  rw [View.readCov_eq_canon']
  refine Eq.trans ?_ (scale_canon (harg1 := harg1) (harg3 := harg3) B arg2 harg2 arg4 harg4 r ⟨j.val, by omega⟩ j.isLt)
  refine congrArg (View.canon _) ?_
  funext a; apply Fin.ext
  match a with
  | ⟨0, _⟩ => show 0 + 1 * r.val = r.val; omega
  | ⟨1, _⟩ => show 0 + 1 * j.val = j.val; omega

end

end Cert.KernelIdeal.Tile

end
-- ==== Proof.Input.lean ====
/- The two arguments as a matrix of reals and a matrix of random numbers, and the three results as functions of them. -/
module

public import proofs.«01_k».proof.Proof.Spec

@[expose] public section

noncomputable section

namespace Cert.Sel

open Idealize.ShloMosaic

/-- The elements as a matrix of reals. -/
def rowsOf (g : FVec Ideal ⟨3, ![1, 1536, 18432]⟩ .bf16) (r c : ℕ) : ℝ :=
  if h : r < 1536 ∧ c < 18432 then EReal.toReal (g (ix3 0 ⟨r, h.1⟩ ⟨c, h.2⟩)) else 0
/-- The upper 24 bits of each random word, as a matrix. -/
def wordsOf (w : IVec ⟨3, ![1, 1536, 4608]⟩ 32) (r q : ℕ) : ℕ :=
  if h : r < 1536 ∧ q < 4608 then (w (ix3 0 ⟨r, h.1⟩ ⟨q, h.2⟩)).toNat / 256 else 0

/-- Every element is zero or of a magnitude in range. -/
def Ranged (g : FVec Ideal ⟨3, ![1, 1536, 18432]⟩ .bf16) : Prop :=
  ∀ (r : Fin 1536) (c : Fin 18432), ∃ x : ℝ, g (ix3 0 r c) = (x : EReal) ∧ (x = 0 ∨ least ≤ |x| ∧ |x| ≤ most)

variable {g : FVec Ideal ⟨3, ![1, 1536, 18432]⟩ .bf16} (w : IVec ⟨3, ![1, 1536, 4608]⟩ 32) (h : Ranged g)

theorem rowsOf_at {g : FVec Ideal ⟨3, ![1, 1536, 18432]⟩ .bf16} (h : Ranged g) (r : Fin 1536) (c : Fin 18432) :
    g (ix3 0 r c) = ((rowsOf g r.val c.val : ℝ) : EReal) := by
  obtain ⟨x, hx, -⟩ := h r c
  unfold rowsOf
  rw [dif_pos ⟨r.isLt, c.isLt⟩]
  show _ = ((EReal.toReal (g (ix3 0 r c)) : ℝ) : EReal)
  rw [hx, EReal.toReal_coe]

theorem wordsOf_at (r : Fin 1536) (q : Fin 4608) : wordsOf w r.val q.val = (w (ix3 0 r q)).toNat / 256 := by
  unfold wordsOf
  rw [dif_pos ⟨r.isLt, q.isLt⟩]

include h in
theorem good_rows : Good (rowsOf g) (wordsOf w) where
  range r c := by
    unfold rowsOf
    split
    · next hh =>
      obtain ⟨x, hx, hr⟩ := h ⟨r, hh.1⟩ ⟨c, hh.2⟩
      rw [hx, EReal.toReal_coe]
      exact hr
    · exact Or.inl rfl
  bits r q := by
    unfold wordsOf
    split
    · have := (w (ix3 0 ⟨r, (‹r < 1536 ∧ q < 4608›).1⟩ ⟨q, (‹r < 1536 ∧ q < 4608›).2⟩)).isLt
      omega
    · norm_num

variable (g)
/-- The codes. -/
def resC : FVec Ideal ⟨2, ![1536, 9216]⟩ .fp8e5m2 := fun i => ((outC (rowsOf g) (wordsOf w) (i 0).val (i 1).val : ℝ) : EReal)
/-- The scales. -/
def resS : IVec ⟨2, ![1536, 288]⟩ 8 := fun i => outS (rowsOf g) (i 0).val (i 1).val
/-- The bytes of choices. -/
def resM : IVec ⟨2, ![1536, 2304]⟩ 8 := fun i => outM (rowsOf g) (wordsOf w) (i 0).val (i 1).val

end Cert.Sel

end
-- ==== Proof.Arrays.lean ====
/- The kernel's three results, whole. -/
module

public import proofs.«01_k».proof.Proof.Block
public import proofs.«01_k».proof.Proof.Input
public import proofs.«01_k».proof.Proof.Gen.KernelIdeal.Value
public import Idealize.ShloMosaic.Lib.Claim
public import Idealize.ShloMosaic.Lib.Pipeline.ValueKit
public import Idealize.ShloMosaic.Lib.ValueLayout

@[expose] public section

noncomputable section

namespace Cert.KernelIdeal.Tile

open Idealize.ShloMosaic Idealize.ShloMosaic.TcCoe
open Cert.KernelIdeal Cert.KernelIdeal.Gen
open Sel

variable (m : (ℓ : Loc nD τ sig) → Buf (Elt Ideal) ℓ) (c : Dev nD)

/-! ## What the host lines hand the kernel -/

theorem entry_g : V m c main_v0 = shapeCast S1536x18432 (m ((c : Thread nD τ).loc main_arg0)) shapeCasts_S1x1536x18432_S1536x18432 := rfl
theorem entry_rand : V m c main_v1 = shapeCast S1536x4608 (m ((c : Thread nD τ).loc main_arg1)) shapeCasts_S1x1536x4608_S1536x4608 := rfl
theorem entry_lanes : V m c main_c = fun i : S8x128.Idx => lit0 (S8x128.rowMajor i) := rfl

/-- A word of the lane table. -/
theorem entry_lane (k : Fin 8) (l : Fin 128) : V m c main_c (ix2 k l) = lit0t (k.val * 128 + l.val) := by
  rw [entry_lanes]
  show lit0t (S8x128.rowMajor (ix2 k l)).val = _
  rw [Shape.rowMajor_val_two]
  rfl

theorem table0 : ∀ l : Fin 128, lit0t (0 * 128 + l.val) = BitVec.ofNat 32 (grp l.val) := by decide
theorem table1 : ∀ l : Fin 128, lit0t (1 * 128 + l.val) = BitVec.ofNat 32 (lane (l.val / 2)) := by decide
theorem table2 : ∀ l : Fin 128, lit0t (2 * 128 + l.val) = BitVec.ofNat 32 (lane (64 + l.val / 2)) := by decide
theorem table3 : ∀ l : Fin 128, lit0t (3 * 128 + l.val) = BitVec.ofNat 32 (lane (2 * (l.val % 64))) := by decide
theorem table4 : ∀ l : Fin 128, lit0t (4 * 128 + l.val) = BitVec.ofNat 32 (lane (2 * (l.val % 64))) := by decide

/-- The column of the one in row `a` of the selection matrix, as the host computes it. -/
def column (a : BitVec 32) : BitVec 32 :=
  IntOp.ori (IntOp.shli .host (IntOp.andi a 3#32) 7#32) (IntOp.ori (IntOp.shli .host (IntOp.andi (IntOp.shrsi .host a 2#32) 15#32) 3#32) (IntOp.shrsi .host (IntOp.shrsi .host a 2#32) 4#32))

theorem column_at : ∀ a : Fin 512, column (BitVec.ofNat 32 a.val) = BitVec.ofNat 32 (128 * (a.val % 4) + lane (a.val / 4)) := by decide +kernel

theorem cmp_col (b n : ℕ) (hb : b < 512) (hn : n < 512) :
    IntOp.cmpi .eq (BitVec.ofNat 32 b) (BitVec.ofNat 32 n) = BitVec.ofBool (decide (b = n)) := by
  show BitVec.ofBool (BitVec.ofNat 32 b == BitVec.ofNat 32 n) = _
  congr 1
  rw [Bool.eq_iff_iff, beq_iff_eq, decide_eq_true_iff, ← BitVec.toNat_inj, BitVec.toNat_ofNat, BitVec.toNat_ofNat]
  omega

theorem entry_planes (a b : Fin 512) :
    @Eq EReal (V m c main_v20 (ix2 a b)) (if b.val = 128 * (a.val % 4) + lane (a.val / 4) then 1 else 0) := by
  have e : @Eq EReal (V m c main_v20 (ix2 a b))
      (Scalar.select (IntOp.cmpi .eq (BitVec.ofNat 32 b.val) (column (BitVec.ofNat 32 a.val))) (Ideal.ofBits .f32 0x3F800000#32) (Ideal.ofBits .f32 0x00000000#32)) := rfl
  have hl := lane_lt (a.val / 4) (by omega)
  rw [e, column_at, cmp_col _ _ b.isLt (by omega), select_ofBool, c_one, c_zero]
  simp only [EReal.coe_one, EReal.coe_zero]

/-! ## The blocks -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

theorem row_lt (t : Fin cfg0.N) (r : Fin 32) : 32 * t.val + r.val < 1536 := by
  have : t.val < 48 := t.isLt
  omega

theorem block0 (t : Fin cfg0.N) (r : Fin 32) (j : Fin 18432) : iblk m c 0 t (ix2 r j) = V m c main_v0 (ix2 ⟨32 * t.val + r.val, row_lt t r⟩ j) := by
  unfold iblk
  blk_simp
  congr 1
  blk_ext [index0]
theorem block1 (t : Fin cfg0.N) (r : Fin 32) (j : Fin 4608) : iblk m c 1 t (ix2 r j) = V m c main_v1 (ix2 ⟨32 * t.val + r.val, row_lt t r⟩ j) := by
  unfold iblk
  blk_simp
  congr 1
  blk_ext [index1]
theorem block2 (t : Fin cfg0.N) (a b : Fin 512) : iblk m c 2 t (ix2 a b) = V m c main_v20 (ix2 a b) := by
  unfold iblk
  blk_simp
  congr 1
  blk_ext [index2]
theorem block3 (t : Fin cfg0.N) (k : Fin 8) (l : Fin 128) : iblk m c 3 t (ix2 k l) = V m c main_c (ix2 k l) := by
  unfold iblk
  blk_simp
  congr 1
  blk_ext [index3]

/-- The elements. -/
abbrev argG : FVec Ideal ⟨3, ![1, 1536, 18432]⟩ .bf16 := m ((c : Thread nD τ).loc main_arg0)
/-- The random words. -/
abbrev argW : IVec ⟨3, ![1, 1536, 4608]⟩ 32 := m ((c : Thread nD τ).loc main_arg1)

variable (h : Ranged (argG m c))
include h

theorem blocks (t : Fin cfg0.N) :
    Blocks (iblk m c 0 t) (iblk m c 1 t) (iblk m c 2 t) (iblk m c 3 t)
      (fun r j => rowsOf (argG m c) (32 * t.val + r) j) (fun r q => wordsOf (argW m c) (32 * t.val + r) q) where
  good := ⟨fun r j => (good_rows (argW m c) h).range _ _, fun r q => (good_rows (argW m c) h).bits _ _⟩
  elems r j := by
    rw [block0, entry_g]
    refine (ValueIdx.shapeCast_1ab_ab_apply _ _ _ _).trans ?_
    exact rowsOf_at h ⟨32 * t.val + r.val, row_lt t r⟩ j
  rand r q := by
    rw [block1, entry_rand]
    refine (congrArg (fun x : BitVec 32 => x.toNat / 256) (ValueIdx.shapeCast_1ab_ab_apply _ _ _ _)).trans ?_
    exact (wordsOf_at (argW m c) ⟨32 * t.val + r.val, row_lt t r⟩ q).symm
  sel a b := (block2 m c t a b).trans (entry_planes m c a b)
  lanes := {
    rand := fun l => ((block3 m c t 0 l).trans (entry_lane m c 0 l)).trans (table0 l)
    codes0 := fun l => ((block3 m c t 1 l).trans (entry_lane m c 1 l)).trans (table1 l)
    codes1 := fun l => ((block3 m c t 2 l).trans (entry_lane m c 2 l)).trans (table2 l)
    meta0 := fun l => ((block3 m c t 3 l).trans (entry_lane m c 3 l)).trans (table3 l)
    meta1 := fun l => ((block3 m c t 4 l).trans (entry_lane m c 4 l)).trans (table4 l) }

/-! ## The results -/

theorem array_codes : (dats m 0 c).arrAt 4 cfg0.N = resC (argG m c) (argW m c) := by
  refine (dats m 0 c).arrAt_eq_of_covers 4 _ (by decide +kernel) fun t hf y => ?_
  blk_simp
  rw [after0_4]
  unfold outsAt0
  dsimp only
  obtain ⟨r, j, rfl⟩ : ∃ (r : Fin 32) (j : Fin 9216), y = ix2 r j := ⟨y 0, y 1, eq_ix2 y⟩
  refine (block_codes _ _ _ _ _ _ _ _ _ _ _ _ c (grid0.coords t) _ _ _ _ _ _ _ _ (blocks m c h t) r j).trans ?_
  have e : (win0_4.blk t).view.emb (ix2 r j) = (ix2 ⟨32 * t.val + r.val, row_lt t r⟩ j : S1536x9216.Idx) := by blk_ext [index4]
  rw [e]
  rfl

theorem array_scales : (dats m 0 c).arrAt 5 cfg0.N = resS (argG m c) := by
  refine (dats m 0 c).arrAt_eq_of_covers 5 _ (by decide +kernel) fun t hf y => ?_
  blk_simp
  rw [after0_5]
  unfold outsAt0
  dsimp only
  obtain ⟨r, j, rfl⟩ : ∃ (r : Fin 32) (j : Fin 288), y = ix2 r j := ⟨y 0, y 1, eq_ix2 y⟩
  refine (block_scales _ _ _ _ _ _ _ _ _ _ _ _ c (grid0.coords t) _ _ _ _ _ _ _ _ (blocks m c h t) r j).trans ?_
  have e : (win0_5.blk t).view.emb (ix2 r j) = (ix2 ⟨32 * t.val + r.val, row_lt t r⟩ j : S1536x288.Idx) := by blk_ext [index5]
  rw [e]
  rfl

theorem array_metas : (dats m 0 c).arrAt 6 cfg0.N = resM (argG m c) (argW m c) := by
  refine (dats m 0 c).arrAt_eq_of_covers 6 _ (by decide +kernel) fun t hf y => ?_
  blk_simp
  rw [after0_6]
  unfold outsAt0
  dsimp only
  obtain ⟨r, j, rfl⟩ : ∃ (r : Fin 32) (j : Fin 2304), y = ix2 r j := ⟨y 0, y 1, eq_ix2 y⟩
  refine (block_metas _ _ _ _ _ _ _ _ _ _ _ _ c (grid0.coords t) _ _ _ _ _ _ _ _ (blocks m c h t) r j).trans ?_
  have e : (win0_6.blk t).view.emb (ix2 r j) = (ix2 ⟨32 * t.val + r.val, row_lt t r⟩ j : S1536x2304.Idx) := by blk_ext [index6]
  rw [e]
  rfl

end Cert.KernelIdeal.Tile

end
-- ==== Proof.Ref1.lean ====
/- The reference's group values, read at one position where the elements are real numbers: they are the real functions. -/
module

public import proofs.«01_k».proof.Proof.Scale
public import proofs.«01_k».proof.Proof.Gen.ReferenceIdeal.Frame
public import Idealize.ShloMosaic.Lib.Pipeline.Value
public import Idealize.ShloMosaic.Lib.ValueLayout

@[expose] public section

noncomputable section

namespace Cert.ReferenceIdeal.Pay

open Idealize.ShloMosaic Idealize.ShloMosaic.TcCoe
open Cert.ReferenceIdeal Cert.ReferenceIdeal.Gen
open Cert.KernelIdeal.Tile (coe_max coe_min select_ofBool cmp_eq cmp_le cmp_ge cmp_lt cmp_gt absf_at)
open Classical

/-! ## Small words -/

theorem eq_word (n k : ℕ) (hn : n ≤ 3) (hk : k ≤ 3) : IntOp.cmpi .eq (BitVec.ofNat 32 n) (BitVec.ofNat 32 k) = BitVec.ofBool (decide (n = k)) :=
  (by decide : ∀ n k : Fin 4, IntOp.cmpi .eq (BitVec.ofNat 32 n.val) (BitVec.ofNat 32 k.val) = BitVec.ofBool (Nat.decEq n.val k.val).decide)
    ⟨n, by omega⟩ ⟨k, by omega⟩ |>.trans (by congr)
theorem le_word (n k : ℕ) (hn : n ≤ 3) (hk : k ≤ 3) : IntOp.cmpi .sle (BitVec.ofNat 32 n) (BitVec.ofNat 32 k) = BitVec.ofBool (decide (n ≤ k)) :=
  (by decide : ∀ n k : Fin 4, IntOp.cmpi .sle (BitVec.ofNat 32 n.val) (BitVec.ofNat 32 k.val) = BitVec.ofBool (Nat.decLe n.val k.val).decide)
    ⟨n, by omega⟩ ⟨k, by omega⟩ |>.trans (by congr)
theorem min_word (n k : ℕ) (hn : n ≤ 4) (hk : k ≤ 4) : IntOp.minsi (BitVec.ofNat 32 n) (BitVec.ofNat 32 k) = BitVec.ofNat 32 (min n k) :=
  (by decide : ∀ n k : Fin 5, IntOp.minsi (BitVec.ofNat 32 n.val) (BitVec.ofNat 32 k.val) = BitVec.ofNat 32 (min n.val k.val))
    ⟨n, by omega⟩ ⟨k, by omega⟩
theorem max_word (n k : ℕ) (hn : n ≤ 4) (hk : k ≤ 4) : IntOp.maxsi (BitVec.ofNat 32 n) (BitVec.ofNat 32 k) = BitVec.ofNat 32 (max n k) :=
  (by decide : ∀ n k : Fin 5, IntOp.maxsi (BitVec.ofNat 32 n.val) (BitVec.ofNat 32 k.val) = BitVec.ofNat 32 (max n.val k.val))
    ⟨n, by omega⟩ ⟨k, by omega⟩
theorem add_word (n k : ℕ) : IntOp.addi (BitVec.ofNat 32 n) (BitVec.ofNat 32 k) = BitVec.ofNat 32 (n + k) := (BitVec.ofNat_add ..).symm
theorem bit_word (p : Prop) [Decidable p] : (BitVec.ofBool (decide p)).setWidth 32 = BitVec.ofNat 32 (if p then 1 else 0) := by
  by_cases h : p <;> simp [h]
theorem sel_word (p : Prop) [Decidable p] (n k : ℕ) : Scalar.select (BitVec.ofBool (decide p)) (BitVec.ofNat 32 n) (BitVec.ofNat 32 k)
    = BitVec.ofNat 32 (if p then n else k) := by
  rw [select_ofBool]; split_ifs <;> rfl
theorem sel_real (p : Prop) [Decidable p] (x y : ℝ) : Scalar.select (BitVec.ofBool (decide p)) (x : EReal) (y : EReal)
    = ((if p then x else y : ℝ) : EReal) := by
  rw [select_ofBool]; split_ifs <;> rfl

/-! ## One position -/

section Pos
variable (x0 x1 x2 x3 : Vec Ideal S1536x288x16 .bf16) (x4 : Vec Ideal S1536x288x16 .f32) (i : S1536x288x16.Idx) (a0 a1 a2 a3 u : ℝ)

/-- The blocks hold these real numbers at the position. -/
structure At : Prop where
  h0 : x0 i = (a0 : EReal)
  h1 : x1 i = (a1 : EReal)
  h2 : x2 i = (a2 : EReal)
  h3 : x3 i = (a3 : EReal)
  h4 : x4 i = (u : EReal)

variable {x0 x1 x2 x3 x4 i a0 a1 a2 a3 u} (h : At x0 x1 x2 x3 x4 i a0 a1 a2 a3 u)

theorem off0 : (![0, 0, 0] : Fin S1536x288x16.rank → ℕ) = fun _ => 0 := by funext a; fin_cases a <;> rfl
theorem ld0 {e : EltTy} (x : Vec Ideal S1536x288x16 e) : View.ld x r0_0 = x := View.ld_unit_zero off0 _ x

theorem el {v : Vec Ideal S1536x288x16 .bf16} {a : ℝ} (hv : v i = (a : EReal)) : k0_pay4 v i = (a : EReal) := by
  show shapeCast S1536x288x16 v _ i = _
  rw [shapeCast_id]; exact hv
theorem ab {v : Vec Ideal S1536x288x16 .bf16} {a : ℝ} (hv : v i = (a : EReal)) : k0_pay9 v i = ((|a| : ℝ) : EReal) := absf_at i _ a (el hv)

include h
theorem v2_at : k0_pay40 x0 x1 x2 x3 x4 i = (a0 : EReal) := by unfold k0_pay40; rw [ld0]; exact el h.h0
theorem v5_at : k0_pay41 x0 x1 x2 x3 x4 i = (a1 : EReal) := by unfold k0_pay41; rw [ld0]; exact el h.h1
theorem v8_at : k0_pay42 x0 x1 x2 x3 x4 i = (a2 : EReal) := by unfold k0_pay42; rw [ld0]; exact el h.h2
theorem v11_at : k0_pay43 x0 x1 x2 x3 x4 i = (a3 : EReal) := by unfold k0_pay43; rw [ld0]; exact el h.h3
theorem v13_at : k0_pay44 x0 x1 x2 x3 x4 i = (u : EReal) := by
  unfold k0_pay44; rw [ld0]
  show shapeCast S1536x288x16 x4 _ i = _
  rw [shapeCast_id]; exact h.h4
theorem v14_at : k0_pay45 x0 x1 x2 x3 x4 i = ((|a0| : ℝ) : EReal) := by unfold k0_pay45; rw [ld0]; exact ab h.h0
theorem v15_at : k0_pay46 x0 x1 x2 x3 x4 i = ((|a1| : ℝ) : EReal) := by unfold k0_pay46; rw [ld0]; exact ab h.h1
theorem v16_at : k0_pay47 x0 x1 x2 x3 x4 i = ((|a2| : ℝ) : EReal) := by unfold k0_pay47; rw [ld0]; exact ab h.h2
theorem v18_at : k0_pay48 x0 x1 x2 x3 x4 i = ((|a0| + |a1| : ℝ) : EReal) := by
  unfold k0_pay48; rw [ld0, ld0]
  show k0_pay9 x0 i + k0_pay10 x1 i = _
  rw [ab h.h0, show k0_pay10 x1 i = _ from ab h.h1, ← EReal.coe_add]
theorem v19_at : k0_pay49 x0 x1 x2 x3 x4 i = ((|a0| + |a1| + |a2| : ℝ) : EReal) := by
  unfold k0_pay49; rw [ld0, ld0, ld0]
  show k0_pay9 x0 i + k0_pay10 x1 i + k0_pay11 x2 i = _
  rw [ab h.h0, show k0_pay10 x1 i = _ from ab h.h1, show k0_pay11 x2 i = _ from ab h.h2, ← EReal.coe_add, ← EReal.coe_add]
theorem tot_at : k0_pay15 x0 x1 x2 x3 i = ((Sel.tot a0 a1 a2 a3 : ℝ) : EReal) := by
  show k0_pay9 x0 i + k0_pay10 x1 i + k0_pay11 x2 i + k0_pay12 x3 i = _
  rw [ab h.h0, show k0_pay10 x1 i = _ from ab h.h1, show k0_pay11 x2 i = _ from ab h.h2, show k0_pay12 x3 i = _ from ab h.h3,
    ← EReal.coe_add, ← EReal.coe_add, ← EReal.coe_add]
  rfl
theorem mx_at : k0_pay16 x0 x1 x2 x3 i = ((Sel.mx a0 a1 a2 a3 : ℝ) : EReal) := by
  show max (max (k0_pay9 x0 i) (k0_pay10 x1 i)) (max (k0_pay11 x2 i) (k0_pay12 x3 i)) = _
  rw [ab h.h0, show k0_pay10 x1 i = _ from ab h.h1, show k0_pay11 x2 i = _ from ab h.h2, show k0_pay12 x3 i = _ from ab h.h3,
    ← coe_max, ← coe_max, ← coe_max]
  rfl
theorem v20_at : k0_pay50 x0 x1 x2 x3 x4 i = ((Sel.tot a0 a1 a2 a3 : ℝ) : EReal) := by
  unfold k0_pay50; rw [ld0, ld0, ld0, ld0]; exact tot_at h
theorem v33_at : k0_pay51 x0 x1 x2 x3 x4 i = BitVec.ofNat 32 (Sel.jm a0 a1 a2 a3) := by
  unfold k0_pay51; rw [ld0, ld0, ld0, ld0]
  show Scalar.select (Ideal.cmp .oeq (k0_pay9 x0 i) (k0_pay16 x0 x1 x2 x3 i)) 0#32
    (Scalar.select (Ideal.cmp .oeq (k0_pay10 x1 i) (k0_pay16 x0 x1 x2 x3 i)) 1#32
      (Scalar.select (Ideal.cmp .oeq (k0_pay11 x2 i) (k0_pay16 x0 x1 x2 x3 i)) 2#32 3#32)) = _
  rw [ab h.h0, show k0_pay10 x1 i = _ from ab h.h1, show k0_pay11 x2 i = _ from ab h.h2, mx_at h, cmp_eq, cmp_eq, cmp_eq,
    sel_word, sel_word, sel_word]
  rfl
theorem v36_at : k0_pay52 x0 x1 x2 x3 x4 i = BitVec.ofBool (decide (Sel.tot a0 a1 a2 a3 ≤ 2 * Sel.mx a0 a1 a2 a3)) := by
  unfold k0_pay52; rw [ld0, ld0, ld0, ld0]
  show Ideal.cmp .oge (Ideal.ofBits .f32 0x40000000#32 * k0_pay16 x0 x1 x2 x3 i) (k0_pay15 x0 x1 x2 x3 i) = _
  rw [Sel.c_two, mx_at h, tot_at h, ← EReal.coe_mul, cmp_ge]
theorem v37_at : k0_pay53 x0 x1 x2 x3 x4 i = ((Sel.rest a0 a1 a2 a3 : ℝ) : EReal) := by
  unfold k0_pay53; rw [ld0, ld0, ld0, ld0]
  show k0_pay15 x0 x1 x2 x3 i - k0_pay16 x0 x1 x2 x3 i = _
  rw [mx_at h, tot_at h, ← EReal.coe_sub]
  rfl
omit h in
theorem jm_le : Sel.jm a0 a1 a2 a3 ≤ 3 := by unfold Sel.jm; split_ifs <;> omega
omit h in
theorem sec_le : Sel.sec a0 a1 a2 a3 u ≤ 3 := by unfold Sel.sec; split_ifs <;> omega
omit h in
theorem cnt_le (x : ℝ) : Sel.cnt a0 a1 a2 x ≤ 3 := by unfold Sel.cnt; split_ifs <;> omega

theorem sec_at : k0_pay21 (k0_pay44 x0 x1 x2 x3 x4) (k0_pay45 x0 x1 x2 x3 x4) (k0_pay46 x0 x1 x2 x3 x4) (k0_pay47 x0 x1 x2 x3 x4)
    (k0_pay51 x0 x1 x2 x3 x4) (k0_pay53 x0 x1 x2 x3 x4) (k0_pay54 x0 x1 x2 x3 x4) i = BitVec.ofNat 32 (Sel.sec a0 a1 a2 a3 u) := by
  show (fun (U s0 s1 s2 r : EReal) (j : BitVec 32) => Scalar.select (Ideal.cmp .oeq r (Ideal.ofBits .f32 0x00000000#32))
      (Scalar.select (IntOp.cmpi .eq j 0#32) 1#32 0#32)
      (Scalar.select (Ideal.cmp .olt (U * r) (Scalar.select (IntOp.cmpi .eq j 0#32) s1 s0)) (Scalar.select (IntOp.cmpi .eq j 0#32) 1#32 0#32)
        (Scalar.select (Ideal.cmp .olt (U * r) (Scalar.select (IntOp.cmpi .eq j 0#32) s1 s0 + Scalar.select (IntOp.cmpi .sle j 1#32) s2 s1))
          (Scalar.select (IntOp.cmpi .sle j 1#32) 2#32 1#32) (Scalar.select (IntOp.cmpi .sle j 2#32) 3#32 2#32))))
    (k0_pay44 x0 x1 x2 x3 x4 i) (k0_pay45 x0 x1 x2 x3 x4 i) (k0_pay46 x0 x1 x2 x3 x4 i) (k0_pay47 x0 x1 x2 x3 x4 i)
    (k0_pay53 x0 x1 x2 x3 x4 i) (k0_pay51 x0 x1 x2 x3 x4 i) = _
  rw [v13_at h, v14_at h, v15_at h, v16_at h, v37_at h, v33_at h]
  dsimp only
  rw [eq_word _ 0 jm_le (by omega), le_word _ 1 jm_le (by omega), le_word _ 2 jm_le (by omega), Sel.c_zero, ← EReal.coe_mul,
    sel_real, sel_real, ← EReal.coe_add, cmp_eq, cmp_lt, cmp_lt]
  simp only [sel_word]
  rfl
theorem v68_at : k0_pay55 x0 x1 x2 x3 x4 i = BitVec.ofNat 32 (min (Sel.jm a0 a1 a2 a3) (Sel.sec a0 a1 a2 a3 u)) := by
  unfold k0_pay55
  show IntOp.minsi (k0_pay51 x0 x1 x2 x3 x4 i) (k0_pay21 _ _ _ _ _ _ _ i) = _
  rw [v33_at h, sec_at h, min_word _ _ (jm_le.trans (by omega)) (sec_le.trans (by omega))]
theorem v69_at : k0_pay56 x0 x1 x2 x3 x4 i = BitVec.ofNat 32 (max (Sel.jm a0 a1 a2 a3) (Sel.sec a0 a1 a2 a3 u)) := by
  unfold k0_pay56
  show IntOp.maxsi (k0_pay51 x0 x1 x2 x3 x4 i) (k0_pay21 _ _ _ _ _ _ _ i) = _
  rw [v33_at h, sec_at h, max_word _ _ (jm_le.trans (by omega)) (sec_le.trans (by omega))]
theorem v71_at : k0_pay57 x0 x1 x2 x3 x4 i = ((Sel.half a0 a1 a2 a3 : ℝ) : EReal) := by
  unfold k0_pay57
  show k0_pay50 x0 x1 x2 x3 x4 i * Ideal.ofBits .f32 0x3F000000#32 = _
  rw [v20_at h, Sel.c_half, ← EReal.coe_mul]; rfl
theorem v72_at : k0_pay25 (k0_pay44 x0 x1 x2 x3 x4) (k0_pay50 x0 x1 x2 x3 x4) i = ((u * Sel.half a0 a1 a2 a3 : ℝ) : EReal) := by
  show k0_pay44 x0 x1 x2 x3 x4 i * k0_pay57 x0 x1 x2 x3 x4 i = _
  rw [v13_at h, v71_at h, ← EReal.coe_mul]
theorem v73_at : k0_pay58 x0 x1 x2 x3 x4 i = ((u * Sel.half a0 a1 a2 a3 + Sel.half a0 a1 a2 a3 : ℝ) : EReal) := by
  unfold k0_pay58
  show k0_pay25 (k0_pay44 x0 x1 x2 x3 x4) (k0_pay50 x0 x1 x2 x3 x4) i + k0_pay57 x0 x1 x2 x3 x4 i = _
  rw [v72_at h, v71_at h, ← EReal.coe_add]
omit h in
/-- How many of three partial sums are at most a number, as a word. -/
theorem count (x : ℝ) : IntOp.addi (IntOp.addi ((Ideal.cmp .ole ((|a0| : ℝ) : EReal) (x : EReal)).setWidth 32)
      ((Ideal.cmp .ole ((|a0| + |a1| : ℝ) : EReal) (x : EReal)).setWidth 32))
      ((Ideal.cmp .ole ((|a0| + |a1| + |a2| : ℝ) : EReal) (x : EReal)).setWidth 32) = BitVec.ofNat 32 (Sel.cnt a0 a1 a2 x) := by
  rw [cmp_le, cmp_le, cmp_le, bit_word, bit_word, bit_word, add_word, add_word]
  rfl
theorem v81_at : k0_pay59 x0 x1 x2 x3 x4 i = BitVec.ofNat 32 (Sel.cnt a0 a1 a2 (u * Sel.half a0 a1 a2 a3)) := by
  unfold k0_pay59
  show IntOp.addi (IntOp.addi
      ((Ideal.cmp .ole (k0_pay45 x0 x1 x2 x3 x4 i) (k0_pay25 (k0_pay44 x0 x1 x2 x3 x4) (k0_pay50 x0 x1 x2 x3 x4) i)).setWidth 32)
      ((Ideal.cmp .ole (k0_pay48 x0 x1 x2 x3 x4 i) (k0_pay25 (k0_pay44 x0 x1 x2 x3 x4) (k0_pay50 x0 x1 x2 x3 x4) i)).setWidth 32))
      ((Ideal.cmp .ole (k0_pay49 x0 x1 x2 x3 x4 i) (k0_pay25 (k0_pay44 x0 x1 x2 x3 x4) (k0_pay50 x0 x1 x2 x3 x4) i)).setWidth 32) = _
  rw [v14_at h, v18_at h, v19_at h, v72_at h, count]
theorem first_at : k0_pay29 (k0_pay59 x0 x1 x2 x3 x4) i = BitVec.ofNat 32 (Sel.first a0 a1 a2 a3 u) := by
  show IntOp.minsi 2#32 (k0_pay59 x0 x1 x2 x3 x4 i) = _
  rw [v81_at h, min_word 2 _ (by omega) ((cnt_le _).trans (by omega))]
  rfl
/-- The first choice. -/
theorem lo_at : k0_pay30 (k0_pay52 x0 x1 x2 x3 x4) (k0_pay55 x0 x1 x2 x3 x4) (k0_pay59 x0 x1 x2 x3 x4) i
    = BitVec.ofNat 32 (Sel.lo a0 a1 a2 a3 u) := by
  show Scalar.select (k0_pay52 x0 x1 x2 x3 x4 i) (k0_pay55 x0 x1 x2 x3 x4 i) (k0_pay29 (k0_pay59 x0 x1 x2 x3 x4) i) = _
  rw [v36_at h, v68_at h, first_at h, sel_word]
  rfl
/-- The second choice. -/
theorem hi_at : k0_pay61 x0 x1 x2 x3 x4 i = BitVec.ofNat 32 (Sel.hi a0 a1 a2 a3 u) := by
  unfold k0_pay61
  show Scalar.select (k0_pay52 x0 x1 x2 x3 x4 i) (k0_pay56 x0 x1 x2 x3 x4 i)
    (IntOp.minsi 3#32 (IntOp.maxsi (IntOp.addi (IntOp.addi
        ((Ideal.cmp .ole (k0_pay45 x0 x1 x2 x3 x4 i) (k0_pay58 x0 x1 x2 x3 x4 i)).setWidth 32)
        ((Ideal.cmp .ole (k0_pay48 x0 x1 x2 x3 x4 i) (k0_pay58 x0 x1 x2 x3 x4 i)).setWidth 32))
        ((Ideal.cmp .ole (k0_pay49 x0 x1 x2 x3 x4 i) (k0_pay58 x0 x1 x2 x3 x4 i)).setWidth 32))
      (IntOp.addi (k0_pay29 (k0_pay59 x0 x1 x2 x3 x4) i) 1#32))) = _
  have hf : Sel.first a0 a1 a2 a3 u ≤ 2 := min_le_left _ _
  have hc := cnt_le (a0 := a0) (a1 := a1) (a2 := a2) (u * Sel.half a0 a1 a2 a3 + Sel.half a0 a1 a2 a3)
  rw [v14_at h, v18_at h, v19_at h, v73_at h, count, first_at h, v36_at h, v69_at h, add_word _ 1, max_word _ _ (by omega) (by omega),
    min_word 3 _ (by omega) (max_le (by omega) (by omega)), sel_word]
  rfl

omit h in
theorem lo_le : Sel.lo a0 a1 a2 a3 u ≤ 3 := by
  unfold Sel.lo; split_ifs
  · exact (min_le_left _ _).trans jm_le
  · exact (min_le_left _ _).trans (by omega)
omit h in
theorem hi_le : Sel.hi a0 a1 a2 a3 u ≤ 3 := by
  unfold Sel.hi; split_ifs
  · exact max_le jm_le sec_le
  · exact min_le_left _ _

omit h in
/-- The value of a choice, from its word. -/
theorem val (p : ℕ) (hp : p ≤ 3) :
    (fun (b0 b1 b2 b3 r m : EReal) (c : BitVec 1) (j w : BitVec 32) =>
      (fun pk : EReal => (fun sg : EReal => Scalar.select c
        (Scalar.select (IntOp.cmpi .eq w j) pk
          (Scalar.select (Ideal.cmp .oeq r (Ideal.ofBits .f32 0x00000000#32)) (Ideal.ofBits .f32 0x00000000#32) (sg * r))) (sg * m))
        (Scalar.select (Ideal.cmp .ogt pk (Ideal.ofBits .f32 0x00000000#32)) (Ideal.ofBits .f32 0x3F800000#32)
          (Scalar.select (Ideal.cmp .olt pk (Ideal.ofBits .f32 0x00000000#32)) (Ideal.ofBits .f32 0xBF800000#32) (Ideal.ofBits .f32 0x00000000#32))))
      (Scalar.select (IntOp.cmpi .eq w 0#32) b0 (Scalar.select (IntOp.cmpi .eq w 1#32) b1 (Scalar.select (IntOp.cmpi .eq w 2#32) b2 b3))))
    (a0 : EReal) (a1 : EReal) (a2 : EReal) (a3 : EReal) ((Sel.rest a0 a1 a2 a3 : ℝ) : EReal) ((Sel.half a0 a1 a2 a3 : ℝ) : EReal)
    (BitVec.ofBool (decide (Sel.tot a0 a1 a2 a3 ≤ 2 * Sel.mx a0 a1 a2 a3))) (BitVec.ofNat 32 (Sel.jm a0 a1 a2 a3)) (BitVec.ofNat 32 p)
    = ((Sel.value a0 a1 a2 a3 p : ℝ) : EReal) := by
  dsimp only
  rw [eq_word p 0 hp (by omega), eq_word p 1 hp (by omega), eq_word p 2 hp (by omega), eq_word p _ hp jm_le, Sel.c_zero, Sel.c_one, Sel.c_neg1,
    sel_real, sel_real, sel_real, cmp_gt, cmp_lt, cmp_eq, sel_real, sel_real, ← EReal.coe_mul, ← EReal.coe_mul, sel_real, sel_real, sel_real]
  rfl

/-- The first choice's value. -/
theorem vlo_at : k0_pay62 x0 x1 x2 x3 x4 i = ((Sel.value a0 a1 a2 a3 (Sel.lo a0 a1 a2 a3 u) : ℝ) : EReal) := by
  rw [← val (a0 := a0) (a1 := a1) (a2 := a2) (a3 := a3) _ lo_le, ← lo_at h, ← v2_at h, ← v5_at h, ← v8_at h, ← v11_at h, ← v33_at h,
    ← v36_at h, ← v37_at h, ← v71_at h]
  rfl
end Pos

end Cert.ReferenceIdeal.Pay

end
-- ==== Proof.Ref2.lean ====
/- The reference's five blocks, read at one position. -/
module

public import proofs.«01_k».proof.Proof.Ref1
public import proofs.«01_k».proof.Proof.Spec
public import Idealize.ShloMosaic.PureOps.Ideal.Laws

@[expose] public section

noncomputable section

namespace Cert.Sel

/-- The power the scale's byte is of, without its offset. -/
def ee (N : ℝ) : ℤ := if N = 0 then 0 else ex N + 1

theorem fac_ee (N : ℝ) : (2 : ℝ) ^ (-(ee N)) = fac N := by
  unfold ee fac
  split_ifs
  · norm_num
  · congr 1; ring

theorem code_ee (N : ℝ) (h : InRange N) : (code N : ℤ) = ee N + 127 ∧ -126 ≤ ee N ∧ ee N ≤ 126 := by
  unfold code ee
  rcases h with h | ⟨h0, h1, h2⟩
  · rw [if_pos h, if_pos h]; norm_num
  · rw [if_neg h0.ne', if_neg h0.ne']; omega

end Cert.Sel

namespace Cert.ReferenceIdeal.Pay

open Idealize.ShloMosaic Idealize.ShloMosaic.TcCoe
open Cert.ReferenceIdeal Cert.ReferenceIdeal.Gen
open Cert.KernelIdeal.Tile (coe_max coe_min select_ofBool cmp_eq cmp_le cmp_ge cmp_lt cmp_gt absf_at)
open Classical

variable (x0 x1 x2 x3 : Vec Ideal S1536x288x16 .bf16) (x4 : Vec Ideal S1536x288x16 .f32)

/-- The second choices' values. -/
def vhi : FVec Ideal S1536x288x16 .f32 :=
  k0_pay36 (k0_pay40 x0 x1 x2 x3 x4) (k0_pay41 x0 x1 x2 x3 x4) (k0_pay42 x0 x1 x2 x3 x4) (k0_pay43 x0 x1 x2 x3 x4) (k0_pay51 x0 x1 x2 x3 x4)
    (k0_pay52 x0 x1 x2 x3 x4) (k0_pay53 x0 x1 x2 x3 x4) (k0_pay57 x0 x1 x2 x3 x4) (k0_pay61 x0 x1 x2 x3 x4) (k0_pay63 x0 x1 x2 x3 x4)
    (k0_pay64 x0 x1 x2 x3 x4) (k0_pay65 x0 x1 x2 x3 x4)
/-- The blocks' largest values. -/
def amax : FVec Ideal S1536x288 .f32 :=
  multiReduction .maximumf [2] S1536x288 (maximumf (absf (k0_pay62 x0 x1 x2 x3 x4)) (absf (vhi x0 x1 x2 x3 x4))) 0xFF800000#32
    reduces_S1536x288x16_S1536x288 (.inl rfl) rfl
/-- The blocks' powers. -/
def powers : FVec Ideal S1536x288x1 .f32 :=
  k0_pay37 (k0_pay40 x0 x1 x2 x3 x4) (k0_pay41 x0 x1 x2 x3 x4) (k0_pay42 x0 x1 x2 x3 x4) (k0_pay43 x0 x1 x2 x3 x4) (k0_pay51 x0 x1 x2 x3 x4)
    (k0_pay52 x0 x1 x2 x3 x4) (k0_pay53 x0 x1 x2 x3 x4) (k0_pay57 x0 x1 x2 x3 x4) (k0_pay61 x0 x1 x2 x3 x4) (k0_pay62 x0 x1 x2 x3 x4)
    (k0_pay63 x0 x1 x2 x3 x4) (k0_pay64 x0 x1 x2 x3 x4) (k0_pay65 x0 x1 x2 x3 x4)
/-- The blocks' factors. -/
def factors : FVec Ideal S1536x288x1 .f32 :=
  k0_pay38 (k0_pay40 x0 x1 x2 x3 x4) (k0_pay41 x0 x1 x2 x3 x4) (k0_pay42 x0 x1 x2 x3 x4) (k0_pay43 x0 x1 x2 x3 x4) (k0_pay51 x0 x1 x2 x3 x4)
    (k0_pay52 x0 x1 x2 x3 x4) (k0_pay53 x0 x1 x2 x3 x4) (k0_pay57 x0 x1 x2 x3 x4) (k0_pay61 x0 x1 x2 x3 x4) (k0_pay62 x0 x1 x2 x3 x4)
    (k0_pay63 x0 x1 x2 x3 x4) (k0_pay64 x0 x1 x2 x3 x4) (k0_pay65 x0 x1 x2 x3 x4)

variable {x0 x1 x2 x3 x4}

/-- A block's power from its largest value. -/
def power (M : FVec Ideal S1536x288x1 .f32) : FVec Ideal S1536x288x1 .f32 :=
  select (cmpf .oeq M (broadcast S1536x288x1 (Scalar.ofBits .f32 0x00000000#32))) (broadcast S1536x288x1 (Scalar.ofBits .f32 0x00000000#32))
    (addf (floor (divf (log (mulf M (broadcast S1536x288x1 (Scalar.ofBits .f32 0x37924925#32))))
      (log (broadcast S1536x288x1 (Scalar.ofBits .f32 0x40000000#32))))) (broadcast S1536x288x1 (Scalar.ofBits .f32 0x3F800000#32)))
theorem powers_eq : powers x0 x1 x2 x3 x4 = power (shapeCast S1536x288x1 (amax x0 x1 x2 x3 x4) shapeCasts_S1536x288_S1536x288x1) := rfl
theorem power_at (M : FVec Ideal S1536x288x1 .f32) (j : S1536x288x1.Idx) : power M j =
    Scalar.select (Ideal.cmp .oeq (M j) (Ideal.ofBits .f32 0x00000000#32)) (Ideal.ofBits .f32 0x00000000#32)
      (Ideal.liftRound Int.floor (Ideal.div (Ideal.log (M j * Ideal.ofBits .f32 0x37924925#32)) (Ideal.log (Ideal.ofBits .f32 0x40000000#32)))
        + Ideal.ofBits .f32 0x3F800000#32) := rfl
/-- A block's factor from its power. -/
def factor (e : FVec Ideal S1536x288x1 .f32) : FVec Ideal S1536x288x1 .f32 :=
  powf (broadcast S1536x288x1 (Scalar.ofBits .f32 0x40000000#32)) (subf (broadcast S1536x288x1 (Scalar.ofBits .f32 0x00000000#32)) e)
theorem factors_eq : factors x0 x1 x2 x3 x4 = factor (powers x0 x1 x2 x3 x4) := rfl
theorem factor_at (e : FVec Ideal S1536x288x1 .f32) (j : S1536x288x1.Idx) :
    factor e j = Ideal.pow (Ideal.ofBits .f32 0x40000000#32) (Ideal.ofBits .f32 0x00000000#32 - e j) := rfl
/-- A code from a value and a factor. -/
def quant (v f : FVec Ideal S1536x288x16 .f32) : FVec Ideal S1536x288x16 .fp8e5m2 :=
  truncf .fp8e5m2 (minimumf (broadcast S1536x288x16 (Scalar.ofBits .f32 0x47600000#32))
    (maximumf (broadcast S1536x288x16 (Scalar.ofBits .f32 0xC7600000#32)) (mulf v f))) bitsLt_fp8e5m2_f32
theorem quant_at (v f : FVec Ideal S1536x288x16 .f32) (j : S1536x288x16.Idx) :
    quant v f j = min (Ideal.ofBits .f32 0x47600000#32) (max (Ideal.ofBits .f32 0xC7600000#32) (v j * f j)) := rfl
theorem out5_eq : out0_5 x0 x1 x2 x3 x4 = View.canon (Val := Elt Ideal) (s := S1536x288x16) (e := .fp8e5m2)
    [⟨r0_0, quant (k0_pay62 x0 x1 x2 x3 x4) (broadcastTo S1536x288x16 (factors x0 x1 x2 x3 x4) broadcasts_S1536x288x1_S1536x288x16)⟩] := rfl
theorem out6_eq : out0_6 x0 x1 x2 x3 x4 = View.canon (Val := Elt Ideal) (s := S1536x288x16) (e := .fp8e5m2)
    [⟨r0_0, quant (vhi x0 x1 x2 x3 x4) (broadcastTo S1536x288x16 (factors x0 x1 x2 x3 x4) broadcasts_S1536x288x1_S1536x288x16)⟩] := rfl
theorem out7_eq : out0_7 x0 x1 x2 x3 x4 = View.canon (Val := Elt Ideal) (s := S1536x288x1) (e := .i32)
    [⟨r0_1, fptosi 32 (powers x0 x1 x2 x3 x4)⟩] := rfl
theorem fptosi_at (e : FVec Ideal S1536x288x1 .f32) (j : S1536x288x1.Idx) : fptosi 32 e j = Ideal.fptosi 32 (e j) := rfl

section
variable {i : S1536x288x16.Idx} {a0 a1 a2 a3 u : ℝ} (h : At x0 x1 x2 x3 x4 i a0 a1 a2 a3 u)
include h
theorem vhi_at : vhi x0 x1 x2 x3 x4 i = ((Sel.value a0 a1 a2 a3 (Sel.hi a0 a1 a2 a3 u) : ℝ) : EReal) := by
  rw [← val (a0 := a0) (a1 := a1) (a2 := a2) (a3 := a3) _ hi_le, ← hi_at h, ← v2_at h, ← v5_at h, ← v8_at h, ← v11_at h, ← v33_at h,
    ← v36_at h, ← v37_at h, ← v71_at h]
  rfl
theorem mag_at (h0 : 0 ≤ u) (h1 : u < 1) :
    maximumf (absf (k0_pay62 x0 x1 x2 x3 x4)) (absf (vhi x0 x1 x2 x3 x4)) i = ((Sel.big a0 a1 a2 a3 : ℝ) : EReal) := by
  show max (absf (k0_pay62 x0 x1 x2 x3 x4) i) (absf (vhi x0 x1 x2 x3 x4) i) = _
  rw [absf_at i _ _ (vlo_at h), absf_at i _ _ (vhi_at h), ← coe_max, Sel.max_value _ _ _ _ _ h0 h1]
end

variable (x0 x1 x2 x3 x4)
variable (A : ℕ → ℕ → ℝ) (W : ℕ → ℕ → ℕ)
/-- The blocks hold the rows' elements and random numbers. -/
def Holds : Prop := ∀ (r : Fin 1536) (b : Fin 288) (k : Fin 16), At x0 x1 x2 x3 x4 (ix3 r b k) (A r.val (4 * (16 * b.val + k.val)))
  (A r.val (4 * (16 * b.val + k.val) + 1)) (A r.val (4 * (16 * b.val + k.val) + 2)) (A r.val (4 * (16 * b.val + k.val) + 3))
  (Sel.gu W r.val (16 * b.val + k.val))
variable {x0 x1 x2 x3 x4 A W}
variable (hH : Holds x0 x1 x2 x3 x4 A W) (hG : Sel.Good A W) (r : Fin 1536) (b : Fin 288) (k : Fin 16)
include hH hG

theorem amax_at : amax x0 x1 x2 x3 x4 (ix2 r b) = Sel.bmax A r.val b.val := by
  unfold amax
  refine (Ideal.multiReduction_maximumf_single (a := (2 : Fin S1536x288x16.rank)) _ _ _ _ _ _).trans ?_
  have hz : FloatOps.ofBits (F := Ideal) .f32 0xFF800000#32 = (⊥ : EReal) := by
    show Ideal.ofBits .f32 0xFF800000#32 = _
    simp [Ideal.ofBits, Ideal.ieee]
  rw [hz]
  unfold Sel.bmax
  congr 1
  funext k
  have hl : reduces_S1536x288x16_S1536x288.lift (ix2 r b) k = ix3 r b (k : Fin 16) := by
    funext a; fin_cases a <;> rfl
  show maximumf _ _ (reduces_S1536x288x16_S1536x288.lift (ix2 r b) k) = _
  rw [hl]
  exact mag_at (hH r b k) (Sel.gu_range hG _ _).1 (Sel.gu_range hG _ _).2

theorem powers_at (z : Fin 1) : powers x0 x1 x2 x3 x4 (ix3 r b z) = (((Sel.ee (Sel.bnorm A r.val b.val) : ℤ) : ℝ) : EReal) := by
  have hc : shapeCast S1536x288x1 (amax x0 x1 x2 x3 x4) shapeCasts_S1536x288_S1536x288x1 (ix3 r b z) = amax x0 x1 x2 x3 x4 (ix2 r b) :=
    shapeCast_apply _ _ _ _ (by
      rw [Shape.rowMajor_val_two, Shape.rowMajor_val_three]
      have : z.val = 0 := by omega
      show r.val * 288 + b.val = (r.val * 288 + b.val) * 1 + z.val
      omega)
  rw [powers_eq, power_at, hc, amax_at hH hG, Sel.bmax_coe hG]
  have hr := Sel.bnorm_range hG r.val b.val
  unfold Sel.bnorm at hr ⊢
  generalize (Sel.bmax A r.val b.val).toReal = M at hr ⊢
  rw [Sel.c_zero, Sel.c_inv, Sel.c_two, Sel.c_one, cmp_eq, select_ofBool, ← EReal.coe_mul]
  have hi : Sel.inv ≠ 0 := by unfold Sel.inv; norm_num
  unfold Sel.ee
  by_cases hM : M = 0
  · rw [if_pos hM, if_pos (by rw [hM, zero_mul])]; norm_num
  · have hN : M * Sel.inv ≠ 0 := mul_ne_zero hM hi
    rw [if_neg hM, if_neg hN]
    have hpos : 0 < M * Sel.inv := by
      rcases hr with h | h
      · exact absurd h hN
      · exact h.1
    have e1 : Ideal.log ((M * Sel.inv : ℝ) : EReal) = ((Real.log (M * Sel.inv) : ℝ) : EReal) := by
      show (if M * Sel.inv ≤ 0 then ⊥ else _) = _
      rw [if_neg (not_le.mpr hpos)]
    have e2 : Ideal.log ((2 : ℝ) : EReal) = ((Real.log 2 : ℝ) : EReal) := by
      show (if (2 : ℝ) ≤ 0 then ⊥ else _) = _
      rw [if_neg (by norm_num)]
    rw [e1, e2, Ideal.div_coe (Real.log_pos (by norm_num)).ne', ← EReal.coe_mul, Ideal.liftRound_coe, ← EReal.coe_add]
    unfold Sel.ex
    rw [mul_one_div]
    push_cast
    rfl

theorem factors_at (z : Fin 1) : factors x0 x1 x2 x3 x4 (ix3 r b z) = ((Sel.fac (Sel.bnorm A r.val b.val) : ℝ) : EReal) := by
  rw [factors_eq, factor_at, powers_at hH hG, Sel.c_two, Sel.c_zero, ← EReal.coe_sub, ← Sel.fac_ee]
  show ((Real.rpow 2 _ : ℝ) : EReal) = _
  congr 1
  rw [zero_sub]
  show (2 : ℝ) ^ (-((Sel.ee (Sel.bnorm A r.val b.val) : ℤ) : ℝ)) = _
  rw [← Int.cast_neg, Real.rpow_intCast]

theorem spread_at : broadcastTo S1536x288x16 (factors x0 x1 x2 x3 x4) broadcasts_S1536x288x1_S1536x288x16 (ix3 r b k)
    = ((Sel.fac (Sel.bnorm A r.val b.val) : ℝ) : EReal) := by
  rw [← factors_at hH hG r b 0]
  refine broadcastTo_apply _ _ _ _ fun a => ?_
  fin_cases a <;> rfl

omit hH hG in
theorem off1 : (![0, 0, 0] : Fin S1536x288x1.rank → ℕ) = fun _ => 0 := by funext a; fin_cases a <;> rfl
omit hH hG in
theorem canon0 {e : EltTy} (x : Vec Ideal S1536x288x16 e) : View.canon (Val := Elt Ideal) (s := S1536x288x16) (e := e) [⟨r0_0, x⟩] = x :=
  View.canon_unit_zero off0 _ x
omit hH hG in
theorem canon1 {e : EltTy} (x : Vec Ideal S1536x288x1 e) : View.canon (Val := Elt Ideal) (s := S1536x288x1) (e := e) [⟨r0_1, x⟩] = x :=
  View.canon_unit_zero off1 _ x

/-- The first choices' codes. -/
theorem out5_at : out0_5 x0 x1 x2 x3 x4 (ix3 r b k)
    = ((Sel.gcode A r.val (16 * b.val + k.val) (Sel.glo A W r.val (16 * b.val + k.val)) : ℝ) : EReal) := by
  rw [out5_eq, canon0, quant_at]
  rw [vlo_at (hH r b k), spread_at hH hG, Sel.c_max, Sel.c_min, ← EReal.coe_mul, ← coe_max, ← coe_min]
  unfold Sel.gcode Sel.gval Sel.glo
  rw [show (16 * b.val + k.val) / 16 = b.val by omega]
  rfl
/-- The second choices' codes. -/
theorem out6_at : out0_6 x0 x1 x2 x3 x4 (ix3 r b k)
    = ((Sel.gcode A r.val (16 * b.val + k.val) (Sel.ghi A W r.val (16 * b.val + k.val)) : ℝ) : EReal) := by
  rw [out6_eq, canon0, quant_at]
  rw [vhi_at (hH r b k), spread_at hH hG, Sel.c_max, Sel.c_min, ← EReal.coe_mul, ← coe_max, ← coe_min]
  unfold Sel.gcode Sel.gval Sel.ghi
  rw [show (16 * b.val + k.val) / 16 = b.val by omega]
  rfl
/-- The powers as words. -/
theorem out7_at (z : Fin 1) : out0_7 x0 x1 x2 x3 x4 (ix3 r b z) = BitVec.ofInt 32 (Sel.ee (Sel.bnorm A r.val b.val)) := by
  rw [out7_eq, canon1, fptosi_at]
  obtain ⟨-, h1, h2⟩ := Sel.code_ee _ (Sel.bnorm_range hG r.val b.val)
  rw [powers_at hH hG]
  generalize Sel.ee (Sel.bnorm A r.val b.val) = n at h1 h2 ⊢
  unfold Ideal.fptosi
  rw [Ideal.toIntClamped_coe, Int.floor_intCast, Int.ceil_intCast, ite_self]
  congr 1
  norm_num
  omega
omit hG
/-- The first choices. -/
theorem out8_at : out0_8 x0 x1 x2 x3 x4 (ix3 r b k) = BitVec.ofNat 32 (Sel.glo A W r.val (16 * b.val + k.val)) := by
  unfold out0_8
  rw [canon0]
  exact lo_at (hH r b k)
/-- The second choices. -/
theorem out9_at : out0_9 x0 x1 x2 x3 x4 (ix3 r b k) = BitVec.ofNat 32 (Sel.ghi A W r.val (16 * b.val + k.val)) := by
  unfold out0_9
  rw [canon0]
  exact hi_at (hH r b k)

end Cert.ReferenceIdeal.Pay

end
-- ==== Proof.Ref3.lean ====
/- What the reference's region leaves, whole. -/
module

public import proofs.«01_k».proof.Proof.Ref2
public import proofs.«01_k».proof.Proof.Input
public import proofs.«01_k».proof.Proof.Gen.ReferenceIdeal.Run
public import Idealize.ShloMosaic.Lib.Claim
public import Idealize.ShloMosaic.Lib.Pipeline.ValueKit
public import Idealize.ShloMosaic.Lib.ValueLayout

@[expose] public section

noncomputable section

namespace Cert.ReferenceIdeal.Pay

open Idealize.ShloMosaic Idealize.ShloMosaic.TcCoe
open Cert.ReferenceIdeal Cert.ReferenceIdeal.Gen
open Sel

variable (m : (ℓ : Loc nD τ sig) → Buf (Elt Ideal) ℓ) (c : Dev nD)

/-- The elements. -/
abbrev argG : FVec Ideal ⟨3, ![1, 1536, 18432]⟩ .bf16 := m ((c : Thread nD τ).loc main_arg0)
/-- The random words. -/
abbrev argW : IVec ⟨3, ![1, 1536, 4608]⟩ 32 := m ((c : Thread nD τ).loc main_arg1)

/-! ## What the host lines hand the region -/

/-- The elements of index `q` in their groups. -/
def part (g : FVec Ideal ⟨3, ![1, 1536, 18432]⟩ .bf16) (q : ℕ) (h : S1536x288x16x4.Slices ![0, 0, 0, q] S1536x288x16x1) :
    FVec Ideal S1536x288x16 .bf16 :=
  shapeCast S1536x288x16 (extractStridedSlice S1536x288x16x1 ![0, 0, 0, q] (shapeCast S1536x288x16x4 g shapeCasts_S1x1536x18432_S1536x288x16x4) h)
    shapeCasts_S1536x288x16x1_S1536x288x16

theorem entry0 : V m c main_v7 = part (argG m c) 0 slices_S1536x288x16x4_S1536x288x16x1_0_0_0_0 := rfl
theorem entry1 : V m c main_v9 = part (argG m c) 1 slices_S1536x288x16x4_S1536x288x16x1_0_0_0_1 := rfl
theorem entry2 : V m c main_v11 = part (argG m c) 2 slices_S1536x288x16x4_S1536x288x16x1_0_0_0_2 := rfl
theorem entry3 : V m c main_v13 = part (argG m c) 3 slices_S1536x288x16x4_S1536x288x16x1_0_0_0_3 := rfl

theorem col_lt (b : Fin 288) (k : Fin 16) (q : ℕ) (hq : q < 4) : 4 * (16 * b.val + k.val) + q < 18432 := by omega

theorem part_at (g : FVec Ideal ⟨3, ![1, 1536, 18432]⟩ .bf16) (q : ℕ) (hq : q < 4) (h : S1536x288x16x4.Slices ![0, 0, 0, q] S1536x288x16x1)
    (r : Fin 1536) (b : Fin 288) (k : Fin 16) : part g q h (ix3 r b k) = g (ix3 0 r ⟨4 * (16 * b.val + k.val) + q, col_lt b k q hq⟩) := by
  unfold part
  refine (shapeCast_apply _ _ _ (ix4 r b k (0 : Fin 1) : S1536x288x16x1.Idx) (by
    rw [Shape.rowMajor_val_four, Shape.rowMajor_val_three]
    show ((r.val * 288 + b.val) * 16 + k.val) * 1 + 0 = (r.val * 288 + b.val) * 16 + k.val
    omega)).trans ?_
  refine (extractStridedSlice_apply _ _ _ _ (ix4 r b k ⟨q, hq⟩ : S1536x288x16x4.Idx) (fun a => by
    fin_cases a
    · show r.val = 0 + r.val; omega
    · show b.val = 0 + b.val; omega
    · show k.val = 0 + k.val; omega
    · show q = q + 0; omega)).trans ?_
  refine shapeCast_apply _ _ _ _ (by
    rw [Shape.rowMajor_val_four, Shape.rowMajor_val_three]
    show (0 * 1536 + r.val) * 18432 + (4 * (16 * b.val + k.val) + q) = ((r.val * 288 + b.val) * 16 + k.val) * 4 + q
    omega)

/-- The random numbers. -/
def rands (w : IVec ⟨3, ![1, 1536, 4608]⟩ 32) : FVec Ideal S1x1536x4608 .f32 :=
  mulf (uitofp .f32 (Host.shrui w (broadcastInDim S1x1536x4608 ![] bcast_S_S1x1536x4608 (constantI S_ 32 8#32))))
    (broadcastInDim S1x1536x4608 ![] bcast_S_S1x1536x4608 (constant S_ .f32 0x33800000#32))
theorem entry4 : V m c main_v14 = shapeCast S1536x288x16 (rands (argW m c)) shapeCasts_S1x1536x4608_S1536x288x16 := rfl
theorem rands_at (w : IVec ⟨3, ![1, 1536, 4608]⟩ 32) (j : S1x1536x4608.Idx) : rands w j
    = (((IntOp.shrui .host (w j) 8#32).toNat : ℝ) : EReal) * Ideal.ofBits .f32 0x33800000#32 := rfl
theorem shift8 (x : BitVec 32) : (IntOp.shrui .host x 8#32).toNat = x.toNat / 256 := by
  unfold IntOp.shrui
  rw [if_pos (by decide), BitVec.ushiftRight_eq', BitVec.toNat_ushiftRight, Nat.shiftRight_eq_div_pow]
  rfl
theorem rand_at (r : Fin 1536) (b : Fin 288) (k : Fin 16) :
    V m c main_v14 (ix3 r b k) = ((gu (wordsOf (argW m c)) r.val (16 * b.val + k.val) : ℝ) : EReal) := by
  rw [entry4]
  refine (shapeCast_apply _ _ _ (ix3 (0 : Fin 1) r ⟨16 * b.val + k.val, by omega⟩ : S1x1536x4608.Idx) (by
    rw [Shape.rowMajor_val_three, Shape.rowMajor_val_three]
    show (0 * 1536 + r.val) * 4608 + (16 * b.val + k.val) = (r.val * 288 + b.val) * 16 + k.val
    omega)).trans ?_
  rw [rands_at, shift8, c_u, ← EReal.coe_mul]
  unfold gu
  rw [show wordsOf (argW m c) r.val (16 * b.val + k.val) = _ from wordsOf_at (argW m c) r ⟨16 * b.val + k.val, by omega⟩]

/-! ## The blocks -/

theorem index0 : ∀ t : Fin cfg0.N, win0_0.index t = ![0, 0, 0] := (by decide +kernel : ∀ t : Fin grid0.N, win0_0.index t = ![0, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0, 0] := (by decide +kernel : ∀ t : Fin grid0.N, win0_3.index t = ![0, 0, 0])
theorem index4 : ∀ t : Fin cfg0.N, win0_4.index t = ![0, 0, 0] := (by decide +kernel : ∀ t : Fin grid0.N, win0_4.index t = ![0, 0, 0])
theorem index5 : ∀ t : Fin cfg0.N, win0_5.index t = ![0, 0, 0] := (by decide +kernel : ∀ t : Fin grid0.N, win0_5.index t = ![0, 0, 0])
theorem index6 : ∀ t : Fin cfg0.N, win0_6.index t = ![0, 0, 0] := (by decide +kernel : ∀ t : Fin grid0.N, win0_6.index t = ![0, 0, 0])
theorem index7 : ∀ t : Fin cfg0.N, win0_7.index t = ![0, 0, 0] := (by decide +kernel : ∀ t : Fin grid0.N, win0_7.index t = ![0, 0, 0])
theorem index8 : ∀ t : Fin cfg0.N, win0_8.index t = ![0, 0, 0] := (by decide +kernel : ∀ t : Fin grid0.N, win0_8.index t = ![0, 0, 0])
theorem index9 : ∀ t : Fin cfg0.N, win0_9.index t = ![0, 0, 0] := (by decide +kernel : ∀ t : Fin grid0.N, win0_9.index t = ![0, 0, 0])

theorem block0 (t : Fin cfg0.N) (r : Fin 1536) (b : Fin 288) (k : Fin 16) : iblk m c 0 t (ix3 r b k) = V m c main_v7 (ix3 r b k) := by
  unfold iblk
  blk_simp
  congr 1
  blk_ext [index0]
theorem block1 (t : Fin cfg0.N) (r : Fin 1536) (b : Fin 288) (k : Fin 16) : iblk m c 1 t (ix3 r b k) = V m c main_v9 (ix3 r b k) := by
  unfold iblk
  blk_simp
  congr 1
  blk_ext [index1]
theorem block2 (t : Fin cfg0.N) (r : Fin 1536) (b : Fin 288) (k : Fin 16) : iblk m c 2 t (ix3 r b k) = V m c main_v11 (ix3 r b k) := by
  unfold iblk
  blk_simp
  congr 1
  blk_ext [index2]
theorem block3 (t : Fin cfg0.N) (r : Fin 1536) (b : Fin 288) (k : Fin 16) : iblk m c 3 t (ix3 r b k) = V m c main_v13 (ix3 r b k) := by
  unfold iblk
  blk_simp
  congr 1
  blk_ext [index3]
theorem block4 (t : Fin cfg0.N) (r : Fin 1536) (b : Fin 288) (k : Fin 16) : iblk m c 4 t (ix3 r b k) = V m c main_v14 (ix3 r b k) := by
  unfold iblk
  blk_simp
  congr 1
  blk_ext [index4]

/-- A group's number. -/
def grp (i : S1536x288x16.Idx) : ℕ := 16 * (i 1).val + (i 2).val
/-- The first choices' codes, by block and group. -/
def arr5 (g : FVec Ideal ⟨3, ![1, 1536, 18432]⟩ .bf16) (w : IVec ⟨3, ![1, 1536, 4608]⟩ 32) : FVec Ideal S1536x288x16 .fp8e5m2 := fun i =>
  ((gcode (rowsOf g) (i 0).val (grp i) (glo (rowsOf g) (wordsOf w) (i 0).val (grp i)) : ℝ) : EReal)
/-- The second choices' codes. -/
def arr6 (g : FVec Ideal ⟨3, ![1, 1536, 18432]⟩ .bf16) (w : IVec ⟨3, ![1, 1536, 4608]⟩ 32) : FVec Ideal S1536x288x16 .fp8e5m2 := fun i =>
  ((gcode (rowsOf g) (i 0).val (grp i) (ghi (rowsOf g) (wordsOf w) (i 0).val (grp i)) : ℝ) : EReal)
/-- The blocks' powers. -/
def arr7 (g : FVec Ideal ⟨3, ![1, 1536, 18432]⟩ .bf16) : IVec S1536x288x1 32 := fun i =>
  BitVec.ofInt 32 (ee (bnorm (rowsOf g) (i 0).val (i 1).val))
/-- The first choices. -/
def arr8 (g : FVec Ideal ⟨3, ![1, 1536, 18432]⟩ .bf16) (w : IVec ⟨3, ![1, 1536, 4608]⟩ 32) : IVec S1536x288x16 32 := fun i =>
  BitVec.ofNat 32 (glo (rowsOf g) (wordsOf w) (i 0).val (grp i))
/-- The second choices. -/
def arr9 (g : FVec Ideal ⟨3, ![1, 1536, 18432]⟩ .bf16) (w : IVec ⟨3, ![1, 1536, 4608]⟩ 32) : IVec S1536x288x16 32 := fun i =>
  BitVec.ofNat 32 (ghi (rowsOf g) (wordsOf w) (i 0).val (grp i))

variable (h : Ranged (argG m c))
include h

theorem holds (t : Fin cfg0.N) : Holds (iblk m c 0 t) (iblk m c 1 t) (iblk m c 2 t) (iblk m c 3 t) (iblk m c 4 t)
    (rowsOf (argG m c)) (wordsOf (argW m c)) := fun r b k => {
  h0 := ((block0 m c t r b k).trans ((congrFun (entry0 m c) _).trans (part_at (argG m c) 0 (by omega) _ r b k))).trans (rowsOf_at h r ⟨_, col_lt b k 0 (by omega)⟩)
  h1 := ((block1 m c t r b k).trans ((congrFun (entry1 m c) _).trans (part_at (argG m c) 1 (by omega) _ r b k))).trans (rowsOf_at h r ⟨_, col_lt b k 1 (by omega)⟩)
  h2 := ((block2 m c t r b k).trans ((congrFun (entry2 m c) _).trans (part_at (argG m c) 2 (by omega) _ r b k))).trans (rowsOf_at h r ⟨_, col_lt b k 2 (by omega)⟩)
  h3 := ((block3 m c t r b k).trans ((congrFun (entry3 m c) _).trans (part_at (argG m c) 3 (by omega) _ r b k))).trans (rowsOf_at h r ⟨_, col_lt b k 3 (by omega)⟩)
  h4 := (block4 m c t r b k).trans (rand_at m c r b k) }

/-! ## The region's results -/

theorem array5 : (dats m 0 c).arrAt 5 cfg0.N = arr5 (argG m c) (argW m c) := by
  refine (dats m 0 c).arrAt_eq_of_covers 5 _ (by decide +kernel) fun t hf y => ?_
  blk_simp
  rw [after0_5]
  obtain ⟨r, b, k, rfl⟩ : ∃ (r : Fin 1536) (b : Fin 288) (k : Fin 16), y = ix3 r b k := ⟨y 0, y 1, y 2, eq_ix3 y⟩
  refine (out5_at (holds m c h t) (good_rows (argW m c) h) r b k).trans ?_
  have e : (win0_5.blk t).view.emb (ix3 r b k) = (ix3 r b k : S1536x288x16.Idx) := by blk_ext [index5]
  rw [e]
  rfl
theorem array6 : (dats m 0 c).arrAt 6 cfg0.N = arr6 (argG m c) (argW m c) := by
  refine (dats m 0 c).arrAt_eq_of_covers 6 _ (by decide +kernel) fun t hf y => ?_
  blk_simp
  rw [after0_6]
  obtain ⟨r, b, k, rfl⟩ : ∃ (r : Fin 1536) (b : Fin 288) (k : Fin 16), y = ix3 r b k := ⟨y 0, y 1, y 2, eq_ix3 y⟩
  refine (out6_at (holds m c h t) (good_rows (argW m c) h) r b k).trans ?_
  have e : (win0_6.blk t).view.emb (ix3 r b k) = (ix3 r b k : S1536x288x16.Idx) := by blk_ext [index6]
  rw [e]
  rfl
theorem array7 : (dats m 0 c).arrAt 7 cfg0.N = arr7 (argG m c) := by
  refine (dats m 0 c).arrAt_eq_of_covers 7 _ (by decide +kernel) fun t hf y => ?_
  blk_simp
  rw [after0_7]
  obtain ⟨r, b, z, rfl⟩ : ∃ (r : Fin 1536) (b : Fin 288) (z : Fin 1), y = ix3 r b z := ⟨y 0, y 1, y 2, eq_ix3 y⟩
  refine (out7_at (holds m c h t) (good_rows (argW m c) h) r b z).trans ?_
  have e : (win0_7.blk t).view.emb (ix3 r b z) = (ix3 r b z : S1536x288x1.Idx) := by blk_ext [index7]
  rw [e]
  rfl
theorem array8 : (dats m 0 c).arrAt 8 cfg0.N = arr8 (argG m c) (argW m c) := by
  refine (dats m 0 c).arrAt_eq_of_covers 8 _ (by decide +kernel) fun t hf y => ?_
  blk_simp
  rw [after0_8]
  obtain ⟨r, b, k, rfl⟩ : ∃ (r : Fin 1536) (b : Fin 288) (k : Fin 16), y = ix3 r b k := ⟨y 0, y 1, y 2, eq_ix3 y⟩
  refine (out8_at (holds m c h t) r b k).trans ?_
  have e : (win0_8.blk t).view.emb (ix3 r b k) = (ix3 r b k : S1536x288x16.Idx) := by blk_ext [index8]
  rw [e]
  rfl
theorem array9 : (dats m 0 c).arrAt 9 cfg0.N = arr9 (argG m c) (argW m c) := by
  refine (dats m 0 c).arrAt_eq_of_covers 9 _ (by decide +kernel) fun t hf y => ?_
  blk_simp
  rw [after0_9]
  obtain ⟨r, b, k, rfl⟩ : ∃ (r : Fin 1536) (b : Fin 288) (k : Fin 16), y = ix3 r b k := ⟨y 0, y 1, y 2, eq_ix3 y⟩
  refine (out9_at (holds m c h t) r b k).trans ?_
  have e : (win0_9.blk t).view.emb (ix3 r b k) = (ix3 r b k : S1536x288x16.Idx) := by blk_ext [index9]
  rw [e]
  rfl

end Cert.ReferenceIdeal.Pay

end
-- ==== Proof.Ref4.lean ====
/- The lines after the reference's region: the three results. -/
module

public import proofs.«01_k».proof.Proof.Ref3

@[expose] public section

noncomputable section

namespace Cert.ReferenceIdeal.Pay

open Idealize.ShloMosaic Idealize.ShloMosaic.TcCoe
open Cert.ReferenceIdeal Cert.ReferenceIdeal.Gen
open Sel

/-! ## The codes: the two choices of each group side by side -/

/-- Two arrays interleaved. -/
def joined (x y : FVec Ideal S1536x288x16 .fp8e5m2) : FVec Ideal S1536x9216 .fp8e5m2 :=
  shapeCast _ (concatenate S1536x288x16x2 3 [⟨S1536x288x16x1, (broadcastInDim S1536x288x16x1 ![0, 1, 2] bcast_S1536x288x16_S1536x288x16x1_0_1_2 x)⟩,
    ⟨S1536x288x16x1, (broadcastInDim S1536x288x16x1 ![0, 1, 2] bcast_S1536x288x16_S1536x288x16x1_0_1_2 y)⟩]
    concatenates_S1536x288x16x1_S1536x288x16x1_S1536x288x16x2_d3) shapeCasts_S1536x288x16x2_S1536x9216

theorem last_at (x : FVec Ideal S1536x288x16 .fp8e5m2) (r : Fin 1536) (b : Fin 288) (k : Fin 16) :
    broadcastInDim S1536x288x16x1 ![0, 1, 2] bcast_S1536x288x16_S1536x288x16x1_0_1_2 x (ix4 r b k (0 : Fin 1)) = x (ix3 r b k) :=
  broadcastInDim_apply _ _ x _ (ix3 r b k) fun a => by
    fin_cases a
    · rfl
    · rfl
    · rfl

theorem two_lt (b : Fin 288) (k : Fin 16) (p : Fin 2) : 2 * (16 * b.val + k.val) + p.val < 9216 := by omega

theorem joined_at (x y : FVec Ideal S1536x288x16 .fp8e5m2) (r : Fin 1536) (b : Fin 288) (k : Fin 16) (p : Fin 2) :
    joined x y (ix2 r ⟨2 * (16 * b.val + k.val) + p.val, two_lt b k p⟩) = if p.val = 1 then y (ix3 r b k) else x (ix3 r b k) := by
  unfold joined
  refine (shapeCast_apply _ _ _ (ix4 r b k p : S1536x288x16x2.Idx) (by
    rw [Shape.rowMajor_val_four, Shape.rowMajor_val_two]
    show ((r.val * 288 + b.val) * 16 + k.val) * 2 + p.val = r.val * 9216 + (2 * (16 * b.val + k.val) + p.val)
    omega)).trans ?_
  split
  · next hp =>
    refine (concatenate_pair_apply_right (t := S1536x288x16x2) (s₁ := S1536x288x16x1) (s₂ := S1536x288x16x1) 3 _ _ _ _ rfl rfl (ix4 r b k (0 : Fin 1))
      (fun a ha => ?_) ?_).trans (last_at y r b k)
    · fin_cases a
      · rfl
      · rfl
      · rfl
      · exact absurd rfl ha
    · show 0 + 1 = p.val
      omega
  · next hp =>
    refine (concatenate_pair_apply_left (t := S1536x288x16x2) (s₁ := S1536x288x16x1) (s₂ := S1536x288x16x1) 3 _ _ _ _ rfl (ix4 r b k (0 : Fin 1))
      (fun a => ?_)).trans (last_at x r b k)
    fin_cases a
    · rfl
    · rfl
    · rfl
    · show 0 = p.val
      omega

theorem codes (g : FVec Ideal ⟨3, ![1, 1536, 18432]⟩ .bf16) (w : IVec ⟨3, ![1, 1536, 4608]⟩ 32) : joined (arr5 g w) (arr6 g w) = resC g w := by
  funext j
  obtain ⟨r, q, rfl⟩ : ∃ (r : Fin 1536) (q : Fin 9216), j = ix2 r q := ⟨j 0, j 1, eq_ix2 j⟩
  have hq : q = ⟨2 * (16 * (⟨q.val / 32, by omega⟩ : Fin 288).val + (⟨q.val / 2 % 16, by omega⟩ : Fin 16).val) + (⟨q.val % 2, by omega⟩ : Fin 2).val,
      two_lt _ _ _⟩ := Fin.ext (by show q.val = 2 * (16 * (q.val / 32) + q.val / 2 % 16) + q.val % 2; omega)
  have hg : 16 * (q.val / 32) + q.val / 2 % 16 = q.val / 2 := by omega
  have e := joined_at (arr5 g w) (arr6 g w) r ⟨q.val / 32, by omega⟩ ⟨q.val / 2 % 16, by omega⟩ ⟨q.val % 2, by omega⟩
  rw [← hq] at e
  refine e.trans ?_
  show (if q.val % 2 = 1 then
      ((gcode (rowsOf g) r.val (16 * (q.val / 32) + q.val / 2 % 16) (ghi (rowsOf g) (wordsOf w) r.val (16 * (q.val / 32) + q.val / 2 % 16)) : ℝ) : EReal)
    else ((gcode (rowsOf g) r.val (16 * (q.val / 32) + q.val / 2 % 16) (glo (rowsOf g) (wordsOf w) r.val (16 * (q.val / 32) + q.val / 2 % 16)) : ℝ) : EReal))
    = ((outC (rowsOf g) (wordsOf w) r.val q.val : ℝ) : EReal)
  rw [hg]
  unfold outC
  split <;> rfl

/-! ## The scales: the powers as biased bytes -/

/-- The bytes of the powers. -/
def bytes (x : IVec S1536x288x1 32) : IVec S1536x288 8 :=
  shapeCast _ (trunci 8 (addi x (broadcastInDim S1536x288x1 ![] bcast_S_S1536x288x1 (constantI S_ 32 127#32))) natLt_8_32) shapeCasts_S1536x288x1_S1536x288

theorem bytes_at (x : IVec S1536x288x1 32) (r : Fin 1536) (b : Fin 288) : bytes x (ix2 r b) = (x (ix3 r b (0 : Fin 1)) + 127#32).setWidth 8 := by
  unfold bytes
  refine (shapeCast_apply _ _ _ (ix3 r b (0 : Fin 1) : S1536x288x1.Idx) (by
    rw [Shape.rowMajor_val_three, Shape.rowMajor_val_two]
    show (r.val * 288 + b.val) * 1 + 0 = r.val * 288 + b.val
    omega)).trans ?_
  rfl

theorem byte_word (e : ℤ) (n : ℕ) (h : (n : ℤ) = e + 127) : (BitVec.ofInt 32 e + 127#32).setWidth 8 = BitVec.ofNat 8 n := by
  have : BitVec.ofInt 32 e + 127#32 = BitVec.ofNat 32 n := by
    rw [show (127#32 : BitVec 32) = BitVec.ofInt 32 127 from rfl, ← BitVec.ofInt_add, ← h]
    exact BitVec.ofInt_natCast 32 n
  rw [this]
  apply BitVec.eq_of_toNat_eq
  simp only [BitVec.toNat_setWidth, BitVec.toNat_ofNat]
  omega

theorem scales (g : FVec Ideal ⟨3, ![1, 1536, 18432]⟩ .bf16) (w : IVec ⟨3, ![1, 1536, 4608]⟩ 32) (h : Ranged g) : bytes (arr7 g) = resS g := by
  funext j
  obtain ⟨r, b, rfl⟩ : ∃ (r : Fin 1536) (b : Fin 288), j = ix2 r b := ⟨j 0, j 1, eq_ix2 j⟩
  refine (bytes_at _ r b).trans ?_
  exact byte_word _ _ (code_ee _ (bnorm_range (good_rows w h) r.val b.val)).1

/-! ## The choices: two groups to a byte -/

/-- A group's two choices in four bits. -/
def fields (x y : IVec S1536x288x16 32) : IVec S1536x2304x2 32 :=
  shapeCast _ (addi x (muli y (broadcastInDim S1536x288x16 ![] bcast_S_S1536x288x16 (constantI S_ 32 4#32)))) shapeCasts_S1536x288x16_S1536x2304x2

theorem grp_lt (q : Fin 2304) (p : Fin 2) : (2 * q.val + p.val) / 16 < 288 := by omega

theorem fields_at (x y : IVec S1536x288x16 32) (r : Fin 1536) (q : Fin 2304) (p : Fin 2) :
    fields x y (ix3 r q p) = x (ix3 r ⟨(2 * q.val + p.val) / 16, grp_lt q p⟩ ⟨(2 * q.val + p.val) % 16, Nat.mod_lt _ (by omega)⟩)
      + y (ix3 r ⟨(2 * q.val + p.val) / 16, grp_lt q p⟩ ⟨(2 * q.val + p.val) % 16, Nat.mod_lt _ (by omega)⟩) * 4#32 := by
  unfold fields
  refine (shapeCast_apply _ _ _ (ix3 r ⟨(2 * q.val + p.val) / 16, grp_lt q p⟩ ⟨(2 * q.val + p.val) % 16, Nat.mod_lt _ (by omega)⟩ : S1536x288x16.Idx) (by
    rw [Shape.rowMajor_val_three, Shape.rowMajor_val_three]
    show (r.val * 288 + (2 * q.val + p.val) / 16) * 16 + (2 * q.val + p.val) % 16 = (r.val * 2304 + q.val) * 2 + p.val
    omega)).trans ?_
  rfl

/-- One of a byte's two halves. -/
def half (x : IVec S1536x2304x2 32) (p : ℕ) (h : S1536x2304x2.Slices ![0, 0, p] S1536x2304x1) : IVec S1536x2304 32 :=
  shapeCast _ (extractStridedSlice S1536x2304x1 ![0, 0, p] x h) shapeCasts_S1536x2304x1_S1536x2304

theorem half_at (x : IVec S1536x2304x2 32) (p : Fin 2) (h : S1536x2304x2.Slices ![0, 0, p.val] S1536x2304x1) (r : Fin 1536) (q : Fin 2304) :
    half x p.val h (ix2 r q) = x (ix3 r q p) := by
  unfold half
  refine (shapeCast_apply _ _ _ (ix3 r q (0 : Fin 1) : S1536x2304x1.Idx) (by
    rw [Shape.rowMajor_val_three, Shape.rowMajor_val_two]
    show (r.val * 2304 + q.val) * 1 + 0 = r.val * 2304 + q.val
    omega)).trans ?_
  exact extractStridedSlice_apply _ _ _ _ (ix3 r q p : S1536x2304x2.Idx) (fun a => by
    fin_cases a
    · show r.val = 0 + r.val; omega
    · show q.val = 0 + q.val; omega
    · show p.val = p.val + 0; omega)

/-- The bytes of the choices. -/
def packed (x y : IVec S1536x288x16 32) : IVec S1536x2304 8 :=
  trunci 8 (ori (half (fields x y) 0 slices_S1536x2304x2_S1536x2304x1_0_0_0)
    (Host.shli (half (fields x y) 1 slices_S1536x2304x2_S1536x2304x1_0_0_1) (broadcastInDim S1536x2304 ![] bcast_S_S1536x2304 (constantI S_ 32 4#32)))) natLt_8_32

theorem packed_at (x y : IVec S1536x288x16 32) (j : S1536x2304.Idx) :
    packed x y j = (half (fields x y) 0 slices_S1536x2304x2_S1536x2304x1_0_0_0 j
      ||| IntOp.shli .host (half (fields x y) 1 slices_S1536x2304x2_S1536x2304x1_0_0_1 j) 4#32).setWidth 8 := rfl

theorem field_word (a b : ℕ) : BitVec.ofNat 32 a + BitVec.ofNat 32 b * 4#32 = BitVec.ofNat 32 (a + 4 * b) := by
  rw [show (4#32 : BitVec 32) = BitVec.ofNat 32 4 from rfl, ← BitVec.ofNat_mul, ← BitVec.ofNat_add, Nat.mul_comm]

theorem pack_word (a b : ℕ) (ha : a < 16) (hb : b < 16) :
    (BitVec.ofNat 32 a ||| IntOp.shli .host (BitVec.ofNat 32 b) 4#32).setWidth 8 = BitVec.ofNat 8 (a + 16 * b) := by
  have key : ∀ a b : Fin 16, (BitVec.ofNat 32 a.val ||| IntOp.shli .host (BitVec.ofNat 32 b.val) 4#32).setWidth 8 = BitVec.ofNat 8 (a.val + 16 * b.val) := by
    decide +kernel
  exact key ⟨a, ha⟩ ⟨b, hb⟩

theorem group_field (g : FVec Ideal ⟨3, ![1, 1536, 18432]⟩ .bf16) (w : IVec ⟨3, ![1, 1536, 4608]⟩ 32) (r : Fin 1536) (q : Fin 2304) (p : Fin 2) :
    fields (arr8 g w) (arr9 g w) (ix3 r q p) = BitVec.ofNat 32 (gfield (rowsOf g) (wordsOf w) r.val (2 * q.val + p.val)) := by
  refine (fields_at _ _ r q p).trans ?_
  have hg : 16 * ((2 * q.val + p.val) / 16) + (2 * q.val + p.val) % 16 = 2 * q.val + p.val := by omega
  show BitVec.ofNat 32 (glo (rowsOf g) (wordsOf w) r.val (16 * ((2 * q.val + p.val) / 16) + (2 * q.val + p.val) % 16))
    + BitVec.ofNat 32 (ghi (rowsOf g) (wordsOf w) r.val (16 * ((2 * q.val + p.val) / 16) + (2 * q.val + p.val) % 16)) * 4#32 = _
  rw [hg]
  exact field_word _ _

theorem gfield_lt (g : FVec Ideal ⟨3, ![1, 1536, 18432]⟩ .bf16) (w : IVec ⟨3, ![1, 1536, 4608]⟩ 32) (h : Ranged g) (r q : ℕ) :
    gfield (rowsOf g) (wordsOf w) r q < 16 := by
  have h1 := lo_lt (good_rows w h) r q
  have h2 := hi_lt (good_rows w h) r q
  unfold gfield
  omega

theorem metas (g : FVec Ideal ⟨3, ![1, 1536, 18432]⟩ .bf16) (w : IVec ⟨3, ![1, 1536, 4608]⟩ 32) (h : Ranged g) :
    packed (arr8 g w) (arr9 g w) = resM g w := by
  funext j
  obtain ⟨r, q, rfl⟩ : ∃ (r : Fin 1536) (q : Fin 2304), j = ix2 r q := ⟨j 0, j 1, eq_ix2 j⟩
  have e0 := (half_at (fields (arr8 g w) (arr9 g w)) 0 slices_S1536x2304x2_S1536x2304x1_0_0_0 r q).trans (group_field g w r q 0)
  have e1 := (half_at (fields (arr8 g w) (arr9 g w)) 1 slices_S1536x2304x2_S1536x2304x1_0_0_1 r q).trans (group_field g w r q 1)
  refine (packed_at _ _ _).trans ?_
  exact (congrArg₂ (fun a b : BitVec 32 => (a ||| IntOp.shli .host b 4#32).setWidth 8) e0 e1).trans
    (pack_word _ _ (gfield_lt g w h r.val _) (gfield_lt g w h r.val _))

/-! ## The three results -/

variable (m : (ℓ : Loc nD τ sig) → Buf (Elt Ideal) ℓ)

/-- The reference leaves the codes, the scales and the bytes of choices. -/
theorem run (ρ : Dev nD → PrngReg) (h : ∀ c, Ranged (argG m c)) :
    θ_run defs (onTc (τ := τ) (main (F := Ideal))) ⟨m, fun _ => 0, ρ⟩ fun r => ∀ c : Dev nD,
      r.2.mem ((c.tc : Thread nD τ).loc main_v19) = resC (argG m c) (argW m c)
      ∧ r.2.mem ((c.tc : Thread nD τ).loc main_v23) = resS (argG m c)
      ∧ r.2.mem ((c.tc : Thread nD τ).loc main_v35) = resM (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r H c => ?_) (Value.run m ρ)
  obtain ⟨H1, H2, H3, H4, H5⟩ := H c
  refine ⟨H1.trans ?_, H2.trans ?_, H3.trans ?_, H4, H5⟩
  · exact (congrArg₂ joined (array5 m c (h c)) (array6 m c (h c))).trans (codes _ _)
  · exact (congrArg bytes (array7 m c (h c))).trans (scales _ (argW m c) (h c))
  · exact (congrArg₂ packed (array8 m c (h c)) (array9 m c (h c))).trans (metas _ _ (h c))

end Cert.ReferenceIdeal.Pay

end
-- ==== Proof.Pre.lean ====
/- The precondition read back: every element is zero or of a magnitude in range. -/
module

public import proofs.«01_k».proof.Proof.Input
public import proofs.«01_k».proof.Proof.Gen.Pre_normal_range
public import Idealize.ShloMosaic.Lib.ReduceAll

@[expose] public section

noncomputable section

namespace Cert.Sel

open Idealize.ShloMosaic
open Cert.Pre_normal_range

theorem c_least : Ideal.ofBits .f32 0x07E00000#32 = ((least : ℝ) : EReal) := by
  unfold least
  simp [Ideal.ofBits, Ideal.ieee, -EReal.coe_mul]; norm_num

theorem c_largest : ∃ b : ℝ, Ideal.ofBits .f32 0x7F7F0000#32 = (b : EReal) ∧ b ≤ most := by
  refine ⟨(254 + 1) / 256 * 2 ^ 128 , ?_, ?_⟩
  · simp [Ideal.ofBits, Ideal.ieee, -EReal.coe_mul]; norm_num
  · unfold most; norm_num

/-- The magnitude of an extended real that is at most a real number is a real number's. -/
theorem real_of_abs (x : EReal) (b : ℝ) (h : max x (-x) ≤ (b : EReal)) : ∃ a : ℝ, x = (a : EReal) ∧ max x (-x) = ((|a| : ℝ) : EReal) := by
  induction x using EReal.rec with
  | bot => exact absurd h (by simp)
  | top => exact absurd h (by simp)
  | coe a => exact ⟨a, rfl, by rw [← EReal.coe_neg, ← (EReal.coe_strictMono.monotone.map_max : ((max a (-a) : ℝ) : EReal) = _)]; rfl⟩

/-- One element's condition. -/
def cond (x : EReal) : BitVec 1 :=
  IntOp.ori (Ideal.cmp .oeq (max x (-x)) (Ideal.ofBits .f32 0x00000000#32))
    (IntOp.andi (Ideal.cmp .oge (max x (-x)) (Ideal.ofBits .f32 0x07E00000#32)) (Ideal.cmp .ole (max x (-x)) (Ideal.ofBits .f32 0x7F7F0000#32)))

theorem of_cond (x : EReal) (h : cond x = 1#1) : ∃ a : ℝ, x = (a : EReal) ∧ (a = 0 ∨ least ≤ |a| ∧ |a| ≤ most) := by
  have bit : ∀ p : Prop, [Decidable p] → BitVec.ofBool (decide p) = 1#1 → p := fun p _ e => by
    by_contra hp; rw [decide_eq_false hp] at e; exact absurd e (by decide)
  unfold cond at h
  rcases IntOp.ori_eq_one.1 h with h | h
  · rw [Ideal.ofBits_zero_f32] at h
    have h' : max x (-x) = (0 : EReal) := bit _ h
    obtain ⟨a, ha, hb⟩ := real_of_abs x 0 (by rw [h']; exact le_rfl)
    refine ⟨a, ha, Or.inl ?_⟩
    rw [hb] at h'
    exact abs_eq_zero.1 (EReal.coe_eq_zero.1 h')
  · obtain ⟨h1, h2⟩ := IntOp.andi_eq_one.1 h
    obtain ⟨b, hb, hm⟩ := c_largest
    rw [c_least] at h1
    rw [hb] at h2
    have h1' : ((least : ℝ) : EReal) ≤ max x (-x) := bit _ h1
    have h2' : max x (-x) ≤ (b : EReal) := bit _ h2
    obtain ⟨a, ha, e⟩ := real_of_abs x b h2'
    rw [e] at h1' h2'
    exact ⟨a, ha, Or.inr ⟨EReal.coe_le_coe_iff.1 h1', (EReal.coe_le_coe_iff.1 h2').trans hm⟩⟩

/-- What the precondition says. -/
theorem ranged_of_pre (g : FVec Ideal ⟨3, ![1, 1536, 18432]⟩ .bf16) (w : IVec ⟨3, ![1, 1536, 4608]⟩ 32)
    (h : Cert.Pre_normal_range.fn (F := Ideal) g w = fun _ => 1#1) : Ranged g := fun r c => by
  haveI : Subsingleton S_.Idx := ⟨fun _ _ => funext fun a => a.elim0⟩
  have e := Host.reduce_andi_all _ _ _ _ _ (congrFun h (fun a => a.elim0)) (ix3 0 r c)
  exact of_cond _ e

end Cert.Sel

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_range
public import proofs.«01_k».proof.Proof.Gen.KernelIdeal.Value
public import proofs.«01_k».proof.Proof.Gen.ReferenceIdeal.Read
public import proofs.«01_k».proof.Proof.Arrays
public import proofs.«01_k».proof.Proof.Ref4
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Under the precondition the kernel and the reference leave the same codes, scales and bytes of choices. -/
theorem same : Cert.algebraic_KernelIdeal_ReferenceIdeal_pre_normal_range := by
  intro m g m' g' hpre hargs
  have hR : ∀ c, Sel.Ranged (Cert.KernelIdeal.Tile.argG m c) := fun c => Sel.ranged_of_pre _ (Cert.KernelIdeal.Tile.argW m c) (hpre c)
  have hG : ∀ c, Cert.ReferenceIdeal.Pay.argG m' c = Cert.KernelIdeal.Tile.argG m c := fun c => (hargs c).1
  have hW : ∀ c, Cert.ReferenceIdeal.Pay.argW m' c = Cert.KernelIdeal.Tile.argW m c := fun c => (hargs c).2
  refine ⟨fun c => Sel.resC (Cert.KernelIdeal.Tile.argG m c) (Cert.KernelIdeal.Tile.argW m c), fun c => Sel.resS (Cert.KernelIdeal.Tile.argG m c),
    fun c => Sel.resM (Cert.KernelIdeal.Tile.argG m c) (Cert.KernelIdeal.Tile.argW m c), ?_, ?_⟩
  · refine (θ_run Cert.KernelIdeal.defs _ _).mono (fun r H c => ?_) (Cert.KernelIdeal.Value.run_blocks m g)
    obtain ⟨H1, H2, H3, H4, H5⟩ := H c
    exact ⟨H1.trans (Cert.KernelIdeal.Tile.array_codes m c (hR c)), H2.trans (Cert.KernelIdeal.Tile.array_scales m c (hR c)),
      H3.trans (Cert.KernelIdeal.Tile.array_metas m c (hR c)), H4, H5⟩
  · refine (θ_run Cert.ReferenceIdeal.defs _ _).mono (fun r H c => ?_)
      (Cert.ReferenceIdeal.Pay.run m' g' fun c => by rw [hG c]; exact hR c)
    obtain ⟨H1, H2, H3, H4, H5⟩ := H c
    rw [hG c, hW c] at H1 H3
    rw [hG c] at H2
    exact ⟨H1, H2, H3, H4, H5⟩

theorem claim : Cert.Claim := ⟨Cert.Kernel.Gen.facts, Cert.KernelIdeal.Gen.facts, Cert.ReferenceIdeal.Gen.facts, Cert.Pre_normal_range.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, same⟩

end Cert.Proof

end
